-- ==== Defs.lean ====
def Pre_Kernel [hPre_ticks_in_range : Cert.Pre_ticks_in_range.Facts] (m : (ℓ : Loc Cert.Kernel.nD Cert.Kernel.τ Cert.Kernel.sig) → Buf (Elt Bits) ℓ) : Prop :=
  ∀ c : Dev Cert.Kernel.nD,
    (Cert.Pre_ticks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ticks_in_range : Cert.Pre_ticks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ticks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_tenths [hPre_tenths : Cert.Pre_tenths.Facts] (m : (ℓ : Loc Cert.KernelIdeal.nD Cert.KernelIdeal.τ Cert.KernelIdeal.sig) → Buf (Elt Ideal) ℓ) : Prop :=
  ∀ c : Dev Cert.KernelIdeal.nD,
    (Cert.Pre_tenths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tenths [hPre_tenths : Cert.Pre_tenths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tenths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ticks_in_range : Cert.Pre_ticks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ticks_in_range : Cert.Pre_ticks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tenths [hKernelIdeal : Cert.KernelIdeal.Facts] [hPre_tenths : Cert.Pre_tenths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tenths m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tenths [hReferenceIdeal : Cert.ReferenceIdeal.Facts] [hPre_tenths : Cert.Pre_tenths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tenths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tenths [hKernelIdeal : Cert.KernelIdeal.Facts] [hReferenceIdeal : Cert.ReferenceIdeal.Facts] [hPre_tenths : Cert.Pre_tenths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tenths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ticks_in_range : Cert.Pre_ticks_in_range.Facts) (hPre_tenths : Cert.Pre_tenths.Facts),
    quiescent_Kernel (hKernel := hKernel) (hPre_ticks_in_range := hPre_ticks_in_range)
    ∧ quiescent_KernelIdeal (hKernelIdeal := hKernelIdeal) (hPre_ticks_in_range := hPre_ticks_in_range)
    ∧ quiescent_KernelIdeal_pre_tenths (hKernelIdeal := hKernelIdeal) (hPre_tenths := hPre_tenths)
    ∧ quiescent_ReferenceIdeal (hReferenceIdeal := hReferenceIdeal)
    ∧ quiescent_ReferenceIdeal_pre_tenths (hReferenceIdeal := hReferenceIdeal) (hPre_tenths := hPre_tenths)
    ∧ preserves_Kernel_KernelIdeal
    ∧ algebraic_KernelIdeal_ReferenceIdeal_pre_tenths (hKernelIdeal := hKernelIdeal) (hReferenceIdeal := hReferenceIdeal) (hPre_tenths := hPre_tenths)
-- ==== Pre_tenths.lean ====
abbrev S8388608 : Shape := ⟨1, ![8388608]⟩
abbrev S11 : Shape := ⟨1, ![11]⟩
abbrev S10 : Shape := ⟨1, ![10]⟩
abbrev S_ : Shape := ⟨0, ![]⟩

class Facts : Prop where
  bcast_S_S11 : S_.BroadcastsInDim S11 (![] : Fin 0 → Fin S11.rank)
  bcast_S_S10 : S_.BroadcastsInDim S10 (![] : Fin 0 → Fin S10.rank)
  bcast_S_S8388608 : S_.BroadcastsInDim S8388608 (![] : Fin 0 → Fin S8388608.rank)
  reducesTo_S11_S_d0 : S11.ReducesTo [0] S_
  h_S_ : 0 < S_.numel
  reducesTo_S10_S_d0 : S10.ReducesTo [0] S_

variable [Facts]

def fn_part1 {F : FTy → Type} [FloatOps F] (main_v7 : IVec S11 1) (main_v10 : IVec S10 1) (main_v15 : IVec S8388608 32) (main_v17 : IVec S8388608 1) : IVec S8388608 1 :=
  let main_c_4 : IVec S_ 32 := constantI S_ 32 14#32
  let main_v18 : IVec S8388608 32 := broadcastInDim S8388608 ![] bcast_S_S8388608 main_c_4
  let main_v19 : IVec S8388608 1 := cmpi .sle main_v15 main_v18
  let main_v20 : IVec S8388608 1 := andi main_v17 main_v19
  let main_c_5 : IVec S_ 1 := constantI S_ 1 1#1
  let main_v21 : IVec S_ 1 := (fun x v => Host.reduce IntOp.andi x v reducesTo_S11_S_d0 h_S_) main_v7 main_c_5
  let main_v22 : IVec S8388608 1 := broadcastInDim S8388608 ![] bcast_S_S8388608 main_v21
  let main_v23 : IVec S8388608 1 := andi main_v20 main_v22
  let main_c_6 : IVec S_ 1 := constantI S_ 1 1#1
  let main_v24 : IVec S_ 1 := (fun x v => Host.reduce IntOp.andi x v reducesTo_S10_S_d0 h_S_) main_v10 main_c_6
  let main_v25 : IVec S8388608 1 := broadcastInDim S8388608 ![] bcast_S_S8388608 main_v24
  let main_v26 : IVec S8388608 1 := andi main_v23 main_v25
  main_v26

def fn {F : FTy → Type} [FloatOps F] (main_arg0 : FVec F S8388608 .f32) (main_arg1 : FVec F S8388608 .f32) (main_arg2 : FVec F S11 .f32) (main_arg3 : FVec F S10 .f32) : IVec S8388608 1 :=
  let main_v0 : IVec S11 32 := iotaInDim S11 32 0
  let main_v1 : FVec F S11 .f32 := sitofp .f32 main_v0
  let main_cst : FVec F S_ .f32 := constant S_ .f32 0x41200000#32
  let main_v2 : FVec F S11 .f32 := broadcastInDim S11 ![] bcast_S_S11 main_cst
  let main_v3 : FVec F S11 .f32 := mulf main_arg2 main_v2
  let main_v4 : FVec F S11 .f32 := subf main_v3 main_v1
  let main_v5 : FVec F S11 .f32 := Host.absf main_v4
  let main_cst_0 : FVec F S_ .f32 := constant S_ .f32 0x3F000000#32
  let main_v6 : FVec F S11 .f32 := broadcastInDim S11 ![] bcast_S_S11 main_cst_0
  let main_v7 : IVec S11 1 := cmpf .olt main_v5 main_v6
  let main_v8 : FVec F S10 .f32 := Host.absf main_arg3
  let main_cst_1 : FVec F S_ .f32 := constant S_ .f32 0x7F800000#32
  let main_v9 : FVec F S10 .f32 := broadcastInDim S10 ![] bcast_S_S10 main_cst_1
  let main_v10 : IVec S10 1 := cmpf .olt main_v8 main_v9
  let main_cst_2 : FVec F S_ .f32 := constant S_ .f32 0x41200000#32
  let main_v11 : FVec F S8388608 .f32 := broadcastInDim S8388608 ![] bcast_S_S8388608 main_cst_2
  let main_v12 : FVec F S8388608 .f32 := mulf main_arg1 main_v11
  let main_cst_3 : FVec F S_ .f32 := constant S_ .f32 0x3F000000#32
  let main_v13 : FVec F S8388608 .f32 := broadcastInDim S8388608 ![] bcast_S_S8388608 main_cst_3
  let main_v14 : FVec F S8388608 .f32 := addf main_v12 main_v13
  let main_v15 : IVec S8388608 32 := fptosi 32 main_v14
  let main_c : IVec S_ 32 := constantI S_ 32 0#32
  let main_v16 : IVec S8388608 32 := broadcastInDim S8388608 ![] bcast_S_S8388608 main_c
  let main_v17 : IVec S8388608 1 := cmpi .sge main_v15 main_v16
  fn_part1 (F := F) main_v7 main_v10 main_v15 main_v17
-- ==== Pre_ticks_in_range.lean ====
abbrev S8388608 : Shape := ⟨1, ![8388608]⟩
abbrev S11 : Shape := ⟨1, ![11]⟩
abbrev S10 : Shape := ⟨1, ![10]⟩
abbrev S_ : Shape := ⟨0, ![]⟩

class Facts : Prop where
  bcast_S_S8388608 : S_.BroadcastsInDim S8388608 (![] : Fin 0 → Fin S8388608.rank)

variable [Facts]

def fn {F : FTy → Type} [FloatOps F] (main_arg0 : FVec F S8388608 .f32) (main_arg1 : FVec F S8388608 .f32) (main_arg2 : FVec F S11 .f32) (main_arg3 : FVec F S10 .f32) : IVec S8388608 1 :=
  let main_cst : FVec F S_ .f32 := constant S_ .f32 0x41200000#32
  let main_v0 : FVec F S8388608 .f32 := broadcastInDim S8388608 ![] bcast_S_S8388608 main_cst
  let main_v1 : FVec F S8388608 .f32 := mulf main_arg1 main_v0
  let main_cst_0 : FVec F S_ .f32 := constant S_ .f32 0x3F000000#32
  let main_v2 : FVec F S8388608 .f32 := broadcastInDim S8388608 ![] bcast_S_S8388608 main_cst_0
  let main_v3 : FVec F S8388608 .f32 := addf main_v1 main_v2
  let main_v4 : IVec S8388608 32 := fptosi 32 main_v3
  let main_c : IVec S_ 32 := constantI S_ 32 0#32
  let main_v5 : IVec S8388608 32 := broadcastInDim S8388608 ![] bcast_S_S8388608 main_c
  let main_v6 : IVec S8388608 1 := cmpi .sge main_v4 main_v5
  let main_c_1 : IVec S_ 32 := constantI S_ 32 14#32
  let main_v7 : IVec S8388608 32 := broadcastInDim S8388608 ![] bcast_S_S8388608 main_c_1
  let main_v8 : IVec S8388608 1 := cmpi .sle main_v4 main_v7
  let main_v9 : IVec S8388608 1 := andi main_v6 main_v8
  main_v9
-- ==== Kernel.lean ====
abbrev S8388608 : Shape := ⟨1, ![8388608]⟩
abbrev S11 : Shape := ⟨1, ![11]⟩
abbrev S10 : Shape := ⟨1, ![10]⟩
abbrev S32x16 : Shape := ⟨2, ![32, 16]⟩
abbrev S2x16384 : Shape := ⟨2, ![2, 16384]⟩
abbrev S16 : Shape := ⟨1, ![16]⟩
abbrev S_ : Shape := ⟨0, ![]⟩
abbrev S1x16384 : Shape := ⟨2, ![1, 16384]⟩
abbrev S16384 : Shape := ⟨1, ![16384]⟩
abbrev S1x16 : Shape := ⟨2, ![1, 16]⟩
abbrev S65536x128 : Shape := ⟨2, ![65536, 128]⟩
abbrev S1x1 : Shape := ⟨2, ![1, 1]⟩
abbrev S4096x128 : Shape := ⟨2, ![4096, 128]⟩
abbrev S1 : Shape := ⟨1, ![1]⟩
abbrev S1x4096x128 : Shape := ⟨3, ![1, 4096, 128]⟩
abbrev S1x1x1 : Shape := ⟨3, ![1, 1, 1]⟩

abbrev nBuf : Table → Nat
  | .hbm => 14
  | .local .tc .vmem => 4
  | .local .tc .smem => 3
  | .local .scVector .vmem => 5
  | _ => 0

abbrev bufTy : (tb : Table) → Fin (nBuf tb) → BufTy
  | .hbm, ⟨0, _⟩ => ⟨S8388608, .f32⟩
  | .hbm, ⟨1, _⟩ => ⟨S8388608, .f32⟩
  | .hbm, ⟨2, _⟩ => ⟨S11, .f32⟩
  | .hbm, ⟨3, _⟩ => ⟨S10, .f32⟩
  | .hbm, ⟨4, _⟩ => ⟨S32x16, .f32⟩
  | .hbm, ⟨5, _⟩ => ⟨S65536x128, .f32⟩
  | .hbm, ⟨6, _⟩ => ⟨S65536x128, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .smem, ⟨0, _⟩ => ⟨S11, .f32⟩
  | .local .tc .smem, ⟨1, _⟩ => ⟨S10, .f32⟩
  | .local .tc .smem, ⟨2, _⟩ => ⟨S1x1, .f32⟩
  | .local .scVector .vmem, ⟨0, _⟩ => ⟨S2x16384, .f32⟩
  | .local .scVector .vmem, ⟨1, _⟩ => ⟨S2x16384, .f32⟩
  | .local .scVector .vmem, ⟨2, _⟩ => ⟨S16, .f32⟩
  | .local .scVector .vmem, ⟨3, _⟩ => ⟨S16, .f32⟩
  | .local .scVector .vmem, ⟨4, _⟩ => ⟨S16, .f32⟩
  | _, _ => ⟨S8388608, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc1_stg2_0 : Ref sig .tc := ⟨.vmem, 0, rfl⟩
abbrev cc1_stg2_1 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg0_0 : Ref sig .tc := ⟨.smem, 0, rfl⟩
abbrev cc1_stg1_0 : Ref sig .tc := ⟨.smem, 1, rfl⟩
abbrev cc1_stg4_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v12 : IVec S16 32) : Prop :=
  (∀ a x, ((![v12] : Fin 1 → IVec S16 32) a x).toNat < S16.size a)
theorem k0_idx1_inb : ∀ (v12 : IVec S16 32) (k0_hw1 : k0_chk1 v12), ∀ a x, ((![v12] : Fin 1 → IVec S16 32) a x).toNat < S16.size a := fun v12 k0_hw1 => k0_hw1
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c0_i32_2 : BitVec 32 := 0#32
  let v15 : BitVec 32 := Scalar.addi v2 c0_i32_2
  v15
def k0_off1 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let v15 : BitVec 32 := Scalar.addi v2 c0_i32_2
  let v16 : BitVec 32 := v15
  ![v16.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c16384_i32 : BitVec 32 := 16384#32
  let v29 : BitVec 32 := Scalar.addi v2 c16384_i32
  v29
@[reducible] def k0_t1_loop : Scf.Loop 32 :=
  let c0_i32_21 : BitVec 32 := 0#32
  let c1024_i32 : BitVec 32 := 1024#32
  let v55 : BitVec 32 := Scalar.addi c0_i32_21 c1024_i32
  let c1_i32_22 : BitVec 32 := 1#32
  ⟨c0_i32_21, v55, c1_i32_22⟩
def k0_mult3 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c16_i32 : BitVec 32 := 16#32
  let v212 : BitVec 32 := Scalar.muli arg16 c16_i32
  v212
def k0_off2 (k0_t1 : Fin k0_t1_loop.trips) : Fin 2 → Nat :=
  let c0_i32_115 : BitVec 32 := 0#32
  let v214 : Index := Scalar.indexCast c0_i32_115
  let c0_i32_21 : BitVec 32 := 0#32
  let c1_i32_22 : BitVec 32 := 1#32
  let arg16 : BitVec 32 := Scf.iv c0_i32_21 c1_i32_22 k0_t1
  let c16_i32 : BitVec 32 := 16#32
  let v212 : BitVec 32 := Scalar.muli arg16 c16_i32
  let v213 : BitVec 32 := v212
  let v215 : Index := Scalar.indexCast v213
  ![0, v215.toNat]

def k0_chk2 (v224 : IVec S16 32) : Prop :=
  (∀ a x, ((![v224] : Fin 1 → IVec S16 32) a x).toNat < S16.size a)
theorem k0_idx2_inb : ∀ (v224 : IVec S16 32) (k0_hw2 : k0_chk2 v224), ∀ a x, ((![v224] : Fin 1 → IVec S16 32) a x).toNat < S16.size a := fun v224 k0_hw2 => k0_hw2

def k0_chk3 (v228 : IVec S16 32) : Prop :=
  (∀ a x, ((![v228] : Fin 1 → IVec S16 32) a x).toNat < S16.size a)
theorem k0_idx3_inb : ∀ (v228 : IVec S16 32) (k0_hw3 : k0_chk3 v228), ∀ a x, ((![v228] : Fin 1 → IVec S16 32) a x).toNat < S16.size a := fun v228 k0_hw3 => k0_hw3
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c32768_i32 : BitVec 32 := 32768#32
  let v57 : BitVec 32 := Scalar.addi v2 c32768_i32
  v57
@[reducible] def k0_t2_loop : Scf.Loop 32 :=
  let c0_i32_36 : BitVec 32 := 0#32
  let c1024_i32_37 : BitVec 32 := 1024#32
  let v83 : BitVec 32 := Scalar.addi c0_i32_36 c1024_i32_37
  let c1_i32_38 : BitVec 32 := 1#32
  ⟨c0_i32_36, v83, c1_i32_38⟩
def k0_mult5 (k0_t2 : Fin k0_t2_loop.trips) : BitVec 32 :=
  let c0_i32_36 : BitVec 32 := 0#32
  let c1_i32_38 : BitVec 32 := 1#32
  let arg16 : BitVec 32 := Scf.iv c0_i32_36 c1_i32_38 k0_t2
  let c16_i32 : BitVec 32 := 16#32
  let v212 : BitVec 32 := Scalar.muli arg16 c16_i32
  v212
def k0_off3 (k0_t2 : Fin k0_t2_loop.trips) : Fin 2 → Nat :=
  let c1_i32_115 : BitVec 32 := 1#32
  let v214 : Index := Scalar.indexCast c1_i32_115
  let c0_i32_36 : BitVec 32 := 0#32
  let c1_i32_38 : BitVec 32 := 1#32
  let arg16 : BitVec 32 := Scf.iv c0_i32_36 c1_i32_38 k0_t2
  let c16_i32 : BitVec 32 := 16#32
  let v212 : BitVec 32 := Scalar.muli arg16 c16_i32
  let v213 : BitVec 32 := v212
  let v215 : Index := Scalar.indexCast v213
  ![1, v215.toNat]

def k0_chk4 (v224 : IVec S16 32) : Prop :=
  (∀ a x, ((![v224] : Fin 1 → IVec S16 32) a x).toNat < S16.size a)
theorem k0_idx4_inb : ∀ (v224 : IVec S16 32) (k0_hw4 : k0_chk4 v224), ∀ a x, ((![v224] : Fin 1 → IVec S16 32) a x).toNat < S16.size a := fun v224 k0_hw4 => k0_hw4

def k0_chk5 (v228 : IVec S16 32) : Prop :=
  (∀ a x, ((![v228] : Fin 1 → IVec S16 32) a x).toNat < S16.size a)
theorem k0_idx5_inb : ∀ (v228 : IVec S16 32) (k0_hw5 : k0_chk5 v228), ∀ a x, ((![v228] : Fin 1 → IVec S16 32) a x).toNat < S16.size a := fun v228 k0_hw5 => k0_hw5
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c49152_i32 : BitVec 32 := 49152#32
  let v85 : BitVec 32 := Scalar.addi v2 c49152_i32
  v85
@[reducible] def k0_t3_loop : Scf.Loop 32 :=
  let c0_i32_52 : BitVec 32 := 0#32
  let c1024_i32_53 : BitVec 32 := 1024#32
  let v111 : BitVec 32 := Scalar.addi c0_i32_52 c1024_i32_53
  let c1_i32_54 : BitVec 32 := 1#32
  ⟨c0_i32_52, v111, c1_i32_54⟩
def k0_mult7 (k0_t3 : Fin k0_t3_loop.trips) : BitVec 32 :=
  let c0_i32_52 : BitVec 32 := 0#32
  let c1_i32_54 : BitVec 32 := 1#32
  let arg16 : BitVec 32 := Scf.iv c0_i32_52 c1_i32_54 k0_t3
  let c16_i32 : BitVec 32 := 16#32
  let v212 : BitVec 32 := Scalar.muli arg16 c16_i32
  v212
def k0_off4 (k0_t3 : Fin k0_t3_loop.trips) : Fin 2 → Nat :=
  let c0_i32_115 : BitVec 32 := 0#32
  let v214 : Index := Scalar.indexCast c0_i32_115
  let c0_i32_52 : BitVec 32 := 0#32
  let c1_i32_54 : BitVec 32 := 1#32
  let arg16 : BitVec 32 := Scf.iv c0_i32_52 c1_i32_54 k0_t3
  let c16_i32 : BitVec 32 := 16#32
  let v212 : BitVec 32 := Scalar.muli arg16 c16_i32
  let v213 : BitVec 32 := v212
  let v215 : Index := Scalar.indexCast v213
  ![0, v215.toNat]

def k0_chk6 (v224 : IVec S16 32) : Prop :=
  (∀ a x, ((![v224] : Fin 1 → IVec S16 32) a x).toNat < S16.size a)
theorem k0_idx6_inb : ∀ (v224 : IVec S16 32) (k0_hw6 : k0_chk6 v224), ∀ a x, ((![v224] : Fin 1 → IVec S16 32) a x).toNat < S16.size a := fun v224 k0_hw6 => k0_hw6

def k0_chk7 (v228 : IVec S16 32) : Prop :=
  (∀ a x, ((![v228] : Fin 1 → IVec S16 32) a x).toNat < S16.size a)
theorem k0_idx7_inb : ∀ (v228 : IVec S16 32) (k0_hw7 : k0_chk7 v228), ∀ a x, ((![v228] : Fin 1 → IVec S16 32) a x).toNat < S16.size a := fun v228 k0_hw7 => k0_hw7
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c65536_i32 : BitVec 32 := 65536#32
  let v113 : BitVec 32 := Scalar.addi v2 c65536_i32
  v113
@[reducible] def k0_t4_loop : Scf.Loop 32 :=
  let c0_i32_68 : BitVec 32 := 0#32
  let c1024_i32_69 : BitVec 32 := 1024#32
  let v139 : BitVec 32 := Scalar.addi c0_i32_68 c1024_i32_69
  let c1_i32_70 : BitVec 32 := 1#32
  ⟨c0_i32_68, v139, c1_i32_70⟩
def k0_mult9 (k0_t4 : Fin k0_t4_loop.trips) : BitVec 32 :=
  let c0_i32_68 : BitVec 32 := 0#32
  let c1_i32_70 : BitVec 32 := 1#32
  let arg16 : BitVec 32 := Scf.iv c0_i32_68 c1_i32_70 k0_t4
  let c16_i32 : BitVec 32 := 16#32
  let v212 : BitVec 32 := Scalar.muli arg16 c16_i32
  v212
def k0_off5 (k0_t4 : Fin k0_t4_loop.trips) : Fin 2 → Nat :=
  let c1_i32_115 : BitVec 32 := 1#32
  let v214 : Index := Scalar.indexCast c1_i32_115
  let c0_i32_68 : BitVec 32 := 0#32
  let c1_i32_70 : BitVec 32 := 1#32
  let arg16 : BitVec 32 := Scf.iv c0_i32_68 c1_i32_70 k0_t4
  let c16_i32 : BitVec 32 := 16#32
  let v212 : BitVec 32 := Scalar.muli arg16 c16_i32
  let v213 : BitVec 32 := v212
  let v215 : Index := Scalar.indexCast v213
  ![1, v215.toNat]

def k0_chk8 (v224 : IVec S16 32) : Prop :=
  (∀ a x, ((![v224] : Fin 1 → IVec S16 32) a x).toNat < S16.size a)
theorem k0_idx8_inb : ∀ (v224 : IVec S16 32) (k0_hw8 : k0_chk8 v224), ∀ a x, ((![v224] : Fin 1 → IVec S16 32) a x).toNat < S16.size a := fun v224 k0_hw8 => k0_hw8

def k0_chk9 (v228 : IVec S16 32) : Prop :=
  (∀ a x, ((![v228] : Fin 1 → IVec S16 32) a x).toNat < S16.size a)
theorem k0_idx9_inb : ∀ (v228 : IVec S16 32) (k0_hw9 : k0_chk9 v228), ∀ a x, ((![v228] : Fin 1 → IVec S16 32) a x).toNat < S16.size a := fun v228 k0_hw9 => k0_hw9
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c81920_i32 : BitVec 32 := 81920#32
  let v141 : BitVec 32 := Scalar.addi v2 c81920_i32
  v141
@[reducible] def k0_t5_loop : Scf.Loop 32 :=
  let c0_i32_84 : BitVec 32 := 0#32
  let c1024_i32_85 : BitVec 32 := 1024#32
  let v167 : BitVec 32 := Scalar.addi c0_i32_84 c1024_i32_85
  let c1_i32_86 : BitVec 32 := 1#32
  ⟨c0_i32_84, v167, c1_i32_86⟩
def k0_mult11 (k0_t5 : Fin k0_t5_loop.trips) : BitVec 32 :=
  let c0_i32_84 : BitVec 32 := 0#32
  let c1_i32_86 : BitVec 32 := 1#32
  let arg16 : BitVec 32 := Scf.iv c0_i32_84 c1_i32_86 k0_t5
  let c16_i32 : BitVec 32 := 16#32
  let v212 : BitVec 32 := Scalar.muli arg16 c16_i32
  v212
def k0_off6 (k0_t5 : Fin k0_t5_loop.trips) : Fin 2 → Nat :=
  let c0_i32_115 : BitVec 32 := 0#32
  let v214 : Index := Scalar.indexCast c0_i32_115
  let c0_i32_84 : BitVec 32 := 0#32
  let c1_i32_86 : BitVec 32 := 1#32
  let arg16 : BitVec 32 := Scf.iv c0_i32_84 c1_i32_86 k0_t5
  let c16_i32 : BitVec 32 := 16#32
  let v212 : BitVec 32 := Scalar.muli arg16 c16_i32
  let v213 : BitVec 32 := v212
  let v215 : Index := Scalar.indexCast v213
  ![0, v215.toNat]

def k0_chk10 (v224 : IVec S16 32) : Prop :=
  (∀ a x, ((![v224] : Fin 1 → IVec S16 32) a x).toNat < S16.size a)
theorem k0_idx10_inb : ∀ (v224 : IVec S16 32) (k0_hw10 : k0_chk10 v224), ∀ a x, ((![v224] : Fin 1 → IVec S16 32) a x).toNat < S16.size a := fun v224 k0_hw10 => k0_hw10

def k0_chk11 (v228 : IVec S16 32) : Prop :=
  (∀ a x, ((![v228] : Fin 1 → IVec S16 32) a x).toNat < S16.size a)
theorem k0_idx11_inb : ∀ (v228 : IVec S16 32) (k0_hw11 : k0_chk11 v228), ∀ a x, ((![v228] : Fin 1 → IVec S16 32) a x).toNat < S16.size a := fun v228 k0_hw11 => k0_hw11
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let c98304_i32 : BitVec 32 := 98304#32
  let v169 : BitVec 32 := Scalar.addi v2 c98304_i32
  v169
@[reducible] def k0_t6_loop : Scf.Loop 32 :=
  let c0_i32_100 : BitVec 32 := 0#32
  let c1024_i32_101 : BitVec 32 := 1024#32
  let v195 : BitVec 32 := Scalar.addi c0_i32_100 c1024_i32_101
  let c1_i32_102 : BitVec 32 := 1#32
  ⟨c0_i32_100, v195, c1_i32_102⟩
def k0_mult13 (k0_t6 : Fin k0_t6_loop.trips) : BitVec 32 :=
  let c0_i32_100 : BitVec 32 := 0#32
  let c1_i32_102 : BitVec 32 := 1#32
  let arg16 : BitVec 32 := Scf.iv c0_i32_100 c1_i32_102 k0_t6
  let c16_i32 : BitVec 32 := 16#32
  let v212 : BitVec 32 := Scalar.muli arg16 c16_i32
  v212
def k0_off7 (k0_t6 : Fin k0_t6_loop.trips) : Fin 2 → Nat :=
  let c1_i32_115 : BitVec 32 := 1#32
  let v214 : Index := Scalar.indexCast c1_i32_115
  let c0_i32_100 : BitVec 32 := 0#32
  let c1_i32_102 : BitVec 32 := 1#32
  let arg16 : BitVec 32 := Scf.iv c0_i32_100 c1_i32_102 k0_t6
  let c16_i32 : BitVec 32 := 16#32
  let v212 : BitVec 32 := Scalar.muli arg16 c16_i32
  let v213 : BitVec 32 := v212
  let v215 : Index := Scalar.indexCast v213
  ![1, v215.toNat]

def k0_chk12 (v224 : IVec S16 32) : Prop :=
  (∀ a x, ((![v224] : Fin 1 → IVec S16 32) a x).toNat < S16.size a)
theorem k0_idx12_inb : ∀ (v224 : IVec S16 32) (k0_hw12 : k0_chk12 v224), ∀ a x, ((![v224] : Fin 1 → IVec S16 32) a x).toNat < S16.size a := fun v224 k0_hw12 => k0_hw12

def k0_chk13 (v228 : IVec S16 32) : Prop :=
  (∀ a x, ((![v228] : Fin 1 → IVec S16 32) a x).toNat < S16.size a)
theorem k0_idx13_inb : ∀ (v228 : IVec S16 32) (k0_hw13 : k0_chk13 v228), ∀ a x, ((![v228] : Fin 1 → IVec S16 32) a x).toNat < S16.size a := fun v228 k0_hw13 => k0_hw13
@[reducible] def k0_t7_loop : Scf.Loop 32 :=
  let c0_i32_110 : BitVec 32 := 0#32
  let c1024_i32_111 : BitVec 32 := 1024#32
  let v209 : BitVec 32 := Scalar.addi c0_i32_110 c1024_i32_111
  let c1_i32_112 : BitVec 32 := 1#32
  ⟨c0_i32_110, v209, c1_i32_112⟩
def k0_mult14 (k0_t7 : Fin k0_t7_loop.trips) : BitVec 32 :=
  let c0_i32_110 : BitVec 32 := 0#32
  let c1_i32_112 : BitVec 32 := 1#32
  let arg16 : BitVec 32 := Scf.iv c0_i32_110 c1_i32_112 k0_t7
  let c16_i32 : BitVec 32 := 16#32
  let v212 : BitVec 32 := Scalar.muli arg16 c16_i32
  v212
def k0_off8 (k0_t7 : Fin k0_t7_loop.trips) : Fin 2 → Nat :=
  let c0_i32_115 : BitVec 32 := 0#32
  let v214 : Index := Scalar.indexCast c0_i32_115
  let c0_i32_110 : BitVec 32 := 0#32
  let c1_i32_112 : BitVec 32 := 1#32
  let arg16 : BitVec 32 := Scf.iv c0_i32_110 c1_i32_112 k0_t7
  let c16_i32 : BitVec 32 := 16#32
  let v212 : BitVec 32 := Scalar.muli arg16 c16_i32
  let v213 : BitVec 32 := v212
  let v215 : Index := Scalar.indexCast v213
  ![0, v215.toNat]

def k0_chk14 (v224 : IVec S16 32) : Prop :=
  (∀ a x, ((![v224] : Fin 1 → IVec S16 32) a x).toNat < S16.size a)
theorem k0_idx14_inb : ∀ (v224 : IVec S16 32) (k0_hw14 : k0_chk14 v224), ∀ a x, ((![v224] : Fin 1 → IVec S16 32) a x).toNat < S16.size a := fun v224 k0_hw14 => k0_hw14

def k0_chk15 (v228 : IVec S16 32) : Prop :=
  (∀ a x, ((![v228] : Fin 1 → IVec S16 32) a x).toNat < S16.size a)
theorem k0_idx15_inb : ∀ (v228 : IVec S16 32) (k0_hw15 : k0_chk15 v228), ∀ a x, ((![v228] : Fin 1 → IVec S16 32) a x).toNat < S16.size a := fun v228 k0_hw15 => k0_hw15
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_115_r2 : BitVec 32 := 0#32
  ![v1.toNat, 0]
abbrev grid1 : Pipeline.Grid := ⟨1, ![9], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S11 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S11 : Shape := ⟨1, ![11]⟩
abbrev S10 : Shape := ⟨1, ![10]⟩
abbrev S1x11 : Shape := ⟨2, ![1, 11]⟩
abbrev S8388608x1 : Shape := ⟨2, ![8388608, 1]⟩
abbrev S8388608x11 : Shape := ⟨2, ![8388608, 11]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S11, .f32⟩
  | .hbm, ⟨3, _⟩ => ⟨S10, .f32⟩
  | .hbm, ⟨4, _⟩ => ⟨S8388608, .f32⟩
  | .hbm, ⟨5, _⟩ => ⟨S8388608, .f32⟩
  | .hbm, ⟨6, _⟩ => ⟨S1x11, .f32⟩
  | .hbm, ⟨7, _⟩ => ⟨S8388608x1, .f32⟩
  | .hbm, ⟨8, _⟩ => ⟨S8388608x11, .f32⟩
  | .hbm, ⟨9, _⟩ => ⟨S8388608x11, .f32⟩
  | .hbm, ⟨10, _⟩ => ⟨S8388608x11, .i1⟩
  | .hbm, ⟨11, _⟩ => ⟨S8388608x11, .i32⟩
  | .hbm, ⟨12, _⟩ => ⟨S_, .i32⟩
  | .hbm, ⟨13, _⟩ => ⟨S8388608, .i32⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8388608, .i32⟩
  | .hbm, ⟨21, _⟩ => ⟨S8388608, .i32⟩
  | .hbm, ⟨22, _⟩ => ⟨S_, .i32⟩
  | .hbm, ⟨23, _⟩ => ⟨S8388608, .i32⟩
  | .hbm, ⟨24, _⟩ => ⟨S8388608, .i32⟩
  | .hbm, ⟨25, _⟩ => ⟨S_, .i32⟩
  | .hbm, ⟨26, _⟩ => ⟨S8388608, .i32⟩
  | .hbm, ⟨27, _⟩ => ⟨S8388608, .i1⟩
  | .hbm, ⟨28, _⟩ => ⟨S_, .i32⟩
  | .hbm, ⟨29, _⟩ => ⟨S8388608, .i32⟩
  | .hbm, ⟨30, _⟩ => ⟨S8388608, .i32⟩
  | .hbm, ⟨31, _⟩ => ⟨S8388608, .i32⟩
  | .hbm, ⟨32, _⟩ => ⟨S8388608x1, .i32⟩
  | .hbm, ⟨33, _⟩ => ⟨S8388608, .f32⟩
  | .hbm, ⟨34, _⟩ => ⟨S8388608, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Proof.Setup.lean ====
/-
  The launch of the kernel's program as the SparseCore launch theorem sees it, the buffers by name, and the values the
  SparseCore half computes, written with no reference to the program: one element's weighted square (`term`) and the
  running sum of such terms (`run`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Elements by number -/

/-- Index `k` of a vector of `n` elements, round the end. -/
def pos (n : ℕ) [NeZero n] (k : ℕ) : (⟨1, ![n]⟩ : Shape).Idx := fun a => match a with | 0 => ⟨k % n, Nat.mod_lt _ (NeZero.pos n)⟩

theorem pos_val {n : ℕ} [NeZero n] (i : (⟨1, ![n]⟩ : Shape).Idx) : pos n (i 0).val = i := by
  funext a
  match a with
  | 0 => exact Fin.ext (Nat.mod_eq_of_lt (i 0).isLt)

theorem pos_of_lt {n k : ℕ} [NeZero n] (h : k < n) : ((pos n k) 0).val = k := Nat.mod_eq_of_lt h

theorem eq_pos {n k : ℕ} [NeZero n] (i : (⟨1, ![n]⟩ : Shape).Idx) (h : (i 0).val = k) : i = pos n k := by
  subst h; exact (pos_val i).symm

/-! ## One element's term, and running sums -/

variable [FloatOps F]

/-- The tick a target falls on: ten times it, rounded to the nearest by adding a half and truncating. -/
def tick (t : F .f32) : BitVec 32 :=
  FloatOps.fptosi 32 (FloatOps.addf (FloatOps.mulf t (FloatOps.ofBits .f32 0x41200000#32)) (FloatOps.ofBits .f32 0x3F000000#32))

/-- How many edges lie below `t`, read off its tick and one comparison. -/
def rank (e : S11.Idx → F .f32) (t : F .f32) : BitVec 32 :=
  IntOp.addi (tick t) (Scalar.select (FloatOps.cmpf .ogt t (e (pos 11 (tick t).toNat))) 1#32 0#32)

/-- The weight of `t`'s bin. -/
def weight (e : S11.Idx → F .f32) (w : S10.Idx → F .f32) (t : F .f32) : F .f32 :=
  w (pos 10 (min ((rank e t).toNat - 1) 9))

/-- One element's weighted squared difference. -/
def term (e : S11.Idx → F .f32) (w : S10.Idx → F .f32) (p t : F .f32) : F .f32 :=
  FloatOps.mulf (FloatOps.mulf (FloatOps.subf p t) (FloatOps.subf p t)) (weight e w t)

/-- The first `n` terms of `f` added to `a`, one at a time. -/
def run (f : ℕ → F .f32) (a : F .f32) : ℕ → F .f32
  | 0 => a
  | n + 1 => FloatOps.addf (run f a n) (f n)

theorem run_add (f : ℕ → F .f32) (a : F .f32) (m n : ℕ) : run f a (m + n) = run (fun k => f (m + k)) (run f a m) n := by
  induction n with
  | zero => rfl
  | succ n ih => show FloatOps.addf (run f a (m + n)) _ = FloatOps.addf _ _; rw [ih]; rfl

theorem run_congr {f g : ℕ → F .f32} {a : F .f32} {n : ℕ} (h : ∀ k < n, f k = g k) : run f a n = run g a n := by
  induction n with
  | zero => rfl
  | succ n ih =>
    show FloatOps.addf _ _ = FloatOps.addf _ _
    rw [ih fun k hk => h k (Nat.lt_succ_of_lt hk), h n (Nat.lt_succ_self n)]

end Cert.Proof.Loss

end
-- ==== Proof.Chunk.lean ====
/-
  One chunk of the SparseCore half: the loop of 1024 trips over a landed half of the two staging buffers, each trip
  sixteen elements, stated once for all seven loops of the program.
-/
module

public import proofs.«01_k».proof.Proof.Setup

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The resource algebra: the handshakes' rounds, the transfers' counters, the pipeline's rounds -/

abbrev UH : Type := URounds (GSem nD τ sig) ℕ
abbrev UP : Type := URounds (GSem nD τ sig) Unit
abbrev UU : Type := UH × (UP × Counters)

local notation "𝕄" => MT nD τ sig (HIx 1) (Elt F) ℕ UU ℕ

local notation "bP" => (Memref.whole Cert.KernelIdeal.cc0_scratch0 : Memref Cert.KernelIdeal.sig Kind.scVector Space.vmem Cert.KernelIdeal.S2x16384 EltTy.f32)
local notation "bT" => (Memref.whole Cert.KernelIdeal.cc0_scratch1 : Memref Cert.KernelIdeal.sig Kind.scVector Space.vmem Cert.KernelIdeal.S2x16384 EltTy.f32)
local notation "bE" => (Memref.whole Cert.KernelIdeal.cc0_scratch2 : Memref Cert.KernelIdeal.sig Kind.scVector Space.vmem Cert.KernelIdeal.S16 EltTy.f32)
local notation "bW" => (Memref.whole Cert.KernelIdeal.cc0_scratch3 : Memref Cert.KernelIdeal.sig Kind.scVector Space.vmem Cert.KernelIdeal.S16 EltTy.f32)

abbrev cV (L : grid0.Coords) : Fin τ.nSC := (L 0).castLE hcore0
abbrev jV (L : grid0.Coords) : Fin τ.nSub := (L 1).castLE hsub0

/-- One trip of a chunk's loop, its offsets and its two side conditions left open. -/
def trip (L : grid0.Coords) (off : Fin k0_t1_loop.trips → Fin 2 → ℕ) (inb : ∀ t a, off t a + S1x16.size a ≤ S2x16384.size a)
    (cA cB : IVec S16 32 → Prop) (dA : ∀ v, Decidable (cA v)) (dB : ∀ v, Decidable (cB v))
    (iA : ∀ v, cA v → ∀ a x, ((![v] : Fin 1 → IVec S16 32) a x).toNat < S16.size a)
    (iB : ∀ v, cB v → ∀ a x, ((![v] : Fin 1 → IVec S16 32) a x).toNat < S16.size a)
    (v4 v5 : FVec F S16 .f32) (v6 v7 : IVec S16 32) :
    Fin k0_t1_loop.trips → FVec F S16 .f32 → Prog (TpuEff nD τ sig (Elt F) Λ₀ (.scVector (cV L) (jV L))) (FVec F S16 .f32) :=
  fun t acc => do
    let p : Vec F S1x16 .f32 ← Prog.lift (.load bP (Rect.unit (s := S2x16384) (off t) S1x16.size (inb t)).toLoadRect (View.loadsAt_vmem h_S1x16))
    let q : Vec F S1x16 .f32 ← Prog.lift (.load bT (Rect.unit (s := S2x16384) (off t) S1x16.size (inb t)).toLoadRect (View.loadsAt_vmem h_S1x16))
    have g : IVec S16 32 := k0_pay2 v4 v5 q
    have hA : cA g := (← Prog.lift (TpuEff.assume (cA g) (dA g))).down
    let e : Vec F S16 .f32 ← SparseCore.vectorLoadIdx bE ![g] (iA g hA) (View.loads_vmem h_S16)
    have j : IVec S16 32 := k0_pay3 v6 v7 q g e
    have hB : cB j := (← Prog.lift (TpuEff.assume (cB j) (dB j))).down
    let w : Vec F S16 .f32 ← SparseCore.vectorLoadIdx bW ![j] (iB j hB) (View.loads_vmem h_S16)
    pure (k0_pay4 acc p q w)

/-! ## What a trip reads -/

/-- Row `h`, column `n` of a staging buffer. -/
def cell (h : Fin 2) (n : ℕ) : S2x16384.Idx := fun a => match a with | 0 => h | 1 => ⟨n % 16384, Nat.mod_lt _ (by decide)⟩

theorem lane_cell {off : Fin 2 → ℕ} (inb : ∀ a, off a + S1x16.size a ≤ S2x16384.size a) {h : Fin 2} {n : ℕ}
    (ho : off = ![h.val, 16 * n]) (x : S16.Idx) :
    (Rect.unit (s := S2x16384) off S1x16.size inb).toLoadRect.idx (Shape.reshapeEquiv shapeCasts_S1x16_S16 x) = cell h (16 * n + (x 0).val) := by
  subst ho
  have hx := (x 0).isLt
  have hb := inb 1
  rw [Shape.reshapeEquiv_cons_one]
  funext a
  apply Fin.ext
  match a with
  | 0 => show h.val + 1 * 0 = _; simp [cell]
  | 1 =>
    show 16 * n + 1 * (x 0).val = (16 * n + (x 0).val) % 16384
    change 16 * n + 16 ≤ 16384 at hb
    change (x 0).val < 16 at hx
    omega

theorem mem_cell {off : Fin 2 → ℕ} (inb : ∀ a, off a + S1x16.size a ≤ S2x16384.size a) {h : Fin 2} {n : ℕ}
    (ho : off = ![h.val, 16 * n]) {S : Finset S2x16384.Idx} (hS : ∀ n, cell h n ∈ S) :
    (Rect.unit (s := S2x16384) off S1x16.size inb).toLoadRect.set ⊆ S := by
  intro i hi
  subst ho
  have hi' := (Rect.unit (s := S2x16384) _ S1x16.size inb).toLoadRect.mem_set.mp hi
  obtain ⟨j, hj, ej⟩ := hi' 0
  change j < 1 at hj
  have e0 : (i 0).val = h.val := by rw [ej]; show h.val + 1 * j = h.val; omega
  rw [show i = cell h (i 1).val from by
    funext a; apply Fin.ext
    match a with
    | 0 => exact e0
    | 1 => exact (Nat.mod_eq_of_lt (i 1).isLt).symm]
  exact hS _

/-- What the proof asks of one chunk: column `n` of the half holds element `n` of the chunk. -/
def Holds (h : Fin 2) (f : S2x16384.Idx → F .f32) (p : ℕ → F .f32) : Prop := ∀ n < 16384, f (cell h n) = p n

theorem lanes_eq {off : Fin 2 → ℕ} (inb : ∀ a, off a + S1x16.size a ≤ S2x16384.size a) {h : Fin 2} {n : ℕ}
    (ho : off = ![h.val, 16 * n]) {f : S2x16384.Idx → F .f32} {p : ℕ → F .f32} (hf : Holds h f p) (x : S16.Idx) :
    shapeCast S16 (fun y => f ((Rect.unit (s := S2x16384) off S1x16.size inb).toLoadRect.idx y)) shapeCasts_S1x16_S16 x = p (16 * n + (x 0).val) := by
  show f ((Rect.unit (s := S2x16384) off S1x16.size inb).toLoadRect.idx (Shape.reshapeEquiv shapeCasts_S1x16_S16 x)) = _
  rw [lane_cell inb ho]
  have hb := inb 1
  have hx := (x 0).isLt
  subst ho
  change 16 * n + 16 ≤ 16384 at hb
  change (x 0).val < 16 at hx
  exact hf _ (by omega)

/-- The edge scratch: its first eleven words are the edges. -/
def HoldsE (f : S16.Idx → F .f32) (e : S11.Idx → F .f32) : Prop := ∀ n < 11, f (pos 16 n) = e (pos 11 n)

/-- The weight scratch once rearranged: word `n` is the weight of the bin with `n` edges below. -/
def HoldsW (f : S16.Idx → F .f32) (w : S10.Idx → F .f32) : Prop := ∀ n < 16, f (pos 16 n) = w (pos 10 (min (n - 1) 9))

/-- A tick corrected by a comparison is the tick or the next number. -/
theorem corrected (g : BitVec 32) (b : BitVec 1) (h : g.toNat ≤ 14) :
    g.toNat ≤ (IntOp.addi g (Scalar.select b 1#32 0#32)).toNat ∧ (IntOp.addi g (Scalar.select b 1#32 0#32)).toNat ≤ g.toNat + 1 := by
  have h1 : (Scalar.select b 1#32 0#32).toNat ≤ 1 := by
    unfold Scalar.select; split <;> simp
  unfold IntOp.addi
  rw [BitVec.toNat_add]; omega

/-- The weight read by a tick corrected by the word `a` is the target's: `a` is the tick's edge where there is one, and past
    the last edge the correction changes nothing. -/
theorem weight_of (e : S11.Idx → F .f32) (w : S10.Idx → F .f32) {t a : F .f32} (h : (tick t).toNat ≤ 14)
    (ha : (tick t).toNat < 11 → a = e (pos 11 (tick t).toNat)) :
    w (pos 10 (min ((IntOp.addi (tick t) (Scalar.select (FloatOps.cmpf .ogt t a) 1#32 0#32)).toNat - 1) 9)) = weight e w t := by
  by_cases hg : (tick t).toNat < 11
  · rw [ha hg]; rfl
  · have h1 := corrected (tick t) (FloatOps.cmpf .ogt t a) h
    have h2 := corrected (tick t) (FloatOps.cmpf .ogt t (e (pos 11 (tick t).toNat))) h
    unfold weight rank
    exact congrArg (fun n => w (pos 10 n)) (by omega)

theorem idxAt_eq (v : IVec S16 32) (h : ∀ a x, ((![v] : Fin 1 → IVec S16 32) a x).toNat < S16.size a) (x : S16.Idx) :
    idxAt (s := S16) ![v] h x = pos 16 (v x).toNat := by
  refine eq_pos _ ?_
  rfl

/-- What a trip computes, lane by lane. -/
theorem trip_val {off : Fin 2 → ℕ} (inb : ∀ a, off a + S1x16.size a ≤ S2x16384.size a) {h : Fin 2} {n : ℕ}
    (ho : off = ![h.val, 16 * n]) {fp ft : S2x16384.Idx → F .f32} {p t : ℕ → F .f32} (hp : Holds h fp p) (ht : Holds h ft t)
    {fe fw : S16.Idx → F .f32} {e : S11.Idx → F .f32} {w : S10.Idx → F .f32} (he : HoldsE fe e) (hw : HoldsW fw w)
    (hn : n < 1024) (hpre : ∀ k < 16384, (tick (t k)).toNat ≤ 14) (acc : FVec F S16 .f32)
    (P Q : Vec F S1x16 .f32)
    (hP : P = fun y => fp ((Rect.unit (s := S2x16384) off S1x16.size inb).toLoadRect.idx y))
    (hQ : Q = fun y => ft ((Rect.unit (s := S2x16384) off S1x16.size inb).toLoadRect.idx y)) :
    (∀ a x, ((![k0_pay2 (F := F) k0_pay10 k0_pay11 Q] : Fin 1 → IVec S16 32) a x).toNat < S16.size a)
    ∧ ∀ iA : (∀ a x, ((![k0_pay2 (F := F) k0_pay10 k0_pay11 Q] : Fin 1 → IVec S16 32) a x).toNat < S16.size a),
      (∀ a x, ((![k0_pay3 (F := F) k0_pay12 k0_pay13 Q (k0_pay2 k0_pay10 k0_pay11 Q) (loadIdx (F := F) (s := S16) (e := .f32) fe ![k0_pay2 (F := F) k0_pay10 k0_pay11 Q] iA)] : Fin 1 → IVec S16 32) a x).toNat < S16.size a)
      ∧ ∀ iB, k0_pay4 acc P Q (loadIdx (F := F) (s := S16) (e := .f32) fw ![k0_pay3 (F := F) k0_pay12 k0_pay13 Q (k0_pay2 k0_pay10 k0_pay11 Q) (loadIdx (F := F) (s := S16) (e := .f32) fe ![k0_pay2 (F := F) k0_pay10 k0_pay11 Q] iA)] iB)
        = fun x => FloatOps.addf (acc x) (term e w (p (16 * n + (x 0).val)) (t (16 * n + (x 0).val))) := by
  have hlane : ∀ x : S16.Idx, 16 * n + (x 0).val < 16384 := fun x => by
    have := (x 0).isLt; change (x 0).val < 16 at this; omega
  have eP : ∀ x : S16.Idx, shapeCast S16 P shapeCasts_S1x16_S16 x = p (16 * n + (x 0).val) := fun x => by rw [hP]; exact lanes_eq inb ho hp x
  have eQ : ∀ x : S16.Idx, shapeCast S16 Q shapeCasts_S1x16_S16 x = t (16 * n + (x 0).val) := fun x => by rw [hQ]; exact lanes_eq inb ho ht x
  have eG : ∀ x : S16.Idx, k0_pay2 (F := F) k0_pay10 k0_pay11 Q x = tick (t (16 * n + (x 0).val)) := fun x => by rw [← eQ x]; rfl
  have bG : ∀ x : S16.Idx, (k0_pay2 (F := F) k0_pay10 k0_pay11 Q x).toNat ≤ 14 := fun x => by rw [eG]; exact hpre _ (hlane x)
  refine ⟨fun a x => ?_, fun iA => ?_⟩
  · match a with
    | 0 => exact Nat.lt_of_le_of_lt (bG x) (by decide)
  have eE : ∀ x : S16.Idx, (tick (t (16 * n + (x 0).val))).toNat < 11 →
      loadIdx (F := F) (s := S16) (e := .f32) fe ![k0_pay2 (F := F) k0_pay10 k0_pay11 Q] iA x = e (pos 11 (tick (t (16 * n + (x 0).val))).toNat) := fun x hx => by
    show fe (idxAt (s := S16) ![k0_pay2 (F := F) k0_pay10 k0_pay11 Q] iA x) = _
    rw [idxAt_eq, eG x]; exact he _ hx
  have eJ : ∀ x : S16.Idx, k0_pay3 (F := F) k0_pay12 k0_pay13 Q (k0_pay2 k0_pay10 k0_pay11 Q) (loadIdx (F := F) (s := S16) (e := .f32) fe ![k0_pay2 (F := F) k0_pay10 k0_pay11 Q] iA) x
      = IntOp.addi (tick (t (16 * n + (x 0).val))) (Scalar.select (FloatOps.cmpf .ogt (t (16 * n + (x 0).val))
          (loadIdx (F := F) (s := S16) (e := .f32) fe ![k0_pay2 (F := F) k0_pay10 k0_pay11 Q] iA x)) 1#32 0#32) := fun x => by
    rw [← eG x, ← eQ x]; rfl
  have bJ : ∀ x : S16.Idx, (IntOp.addi (tick (t (16 * n + (x 0).val))) (Scalar.select (FloatOps.cmpf .ogt (t (16 * n + (x 0).val))
          (loadIdx (F := F) (s := S16) (e := .f32) fe ![k0_pay2 (F := F) k0_pay10 k0_pay11 Q] iA x)) 1#32 0#32)).toNat < 16 := fun x => by
    have h1 := hpre _ (hlane x)
    have h2 := (corrected _ (FloatOps.cmpf .ogt (t (16 * n + (x 0).val)) (loadIdx (F := F) (s := S16) (e := .f32) fe ![k0_pay2 (F := F) k0_pay10 k0_pay11 Q] iA x)) h1).2
    omega
  refine ⟨fun a x => ?_, fun iB => funext fun x => ?_⟩
  · match a with
    | 0 => exact (congrArg BitVec.toNat (eJ x)).trans_lt (bJ x)
  have eW : loadIdx (F := F) (s := S16) (e := .f32) fw ![k0_pay3 (F := F) k0_pay12 k0_pay13 Q (k0_pay2 k0_pay10 k0_pay11 Q) (loadIdx (F := F) (s := S16) (e := .f32) fe ![k0_pay2 (F := F) k0_pay10 k0_pay11 Q] iA)] iB x
      = weight e w (t (16 * n + (x 0).val)) := by
    show fw (idxAt (s := S16) _ iB x) = _
    rw [idxAt_eq, eJ x]; exact (hw _ (bJ x)).trans (weight_of e w (hpre _ (hlane x)) (eE x))
  show FloatOps.addf (acc x) (FloatOps.mulf (FloatOps.mulf (FloatOps.subf (shapeCast S16 P shapeCasts_S1x16_S16 x) (shapeCast S16 Q shapeCasts_S1x16_S16 x))
    (FloatOps.subf (shapeCast S16 P shapeCasts_S1x16_S16 x) (shapeCast S16 Q shapeCasts_S1x16_S16 x))) _) = _
  rw [eW, eP x, eQ x]; rfl

/-! ## The loop -/

variable (d : Dev nD) (L : grid0.Coords)

/-- What the loop holds: the two halves, the edges and the weights. -/
abbrev Held (S : Finset S2x16384.Idx) (fp ft : S2x16384.Idx → F .f32) (fe fw : S16.Idx → F .f32) : sProp 𝕄 :=
  iprop(((bP).view.loc (V d (cV L) (jV L)) ↦[S]{fullShare} fp) ∗ ((bT).view.loc (V d (cV L) (jV L)) ↦[S]{fullShare} ft)
    ∗ ((bE).view.loc (V d (cV L) (jV L)) ↦{fullShare} fe) ∗ ((bW).view.loc (V d (cV L) (jV L)) ↦{fullShare} fw))

theorem setOn_bP {S R : Finset S2x16384.Idx} (h : R ⊆ S) : (bP).view.setOn R ⊆ S := (show (bP).view.setOn R = R from Finset.map_refl).le.trans h
theorem setOn_bT {S R : Finset S2x16384.Idx} (h : R ⊆ S) : (bT).view.setOn R ⊆ S := (show (bT).view.setOn R = R from Finset.map_refl).le.trans h

set_option maxHeartbeats 1000000 in
/-- One trip: from the accumulator, the accumulator with the trip's sixteen terms added. -/
theorem wp_trip {off : Fin k0_t1_loop.trips → Fin 2 → ℕ} {inb : ∀ t a, off t a + S1x16.size a ≤ S2x16384.size a}
    {cA cB : IVec S16 32 → Prop} {dA : ∀ v, Decidable (cA v)} {dB : ∀ v, Decidable (cB v)}
    {iA : ∀ v, cA v → ∀ a x, ((![v] : Fin 1 → IVec S16 32) a x).toNat < S16.size a}
    {iB : ∀ v, cB v → ∀ a x, ((![v] : Fin 1 → IVec S16 32) a x).toNat < S16.size a}
    (hA : ∀ v, (∀ a x, ((![v] : Fin 1 → IVec S16 32) a x).toNat < S16.size a) → cA v)
    (hB : ∀ v, (∀ a x, ((![v] : Fin 1 → IVec S16 32) a x).toNat < S16.size a) → cB v)
    {h : Fin 2} (ho : ∀ t, off t = ![h.val, 16 * t.val])
    {S : Finset S2x16384.Idx} (hS : ∀ n, cell h n ∈ S)
    {fp ft : S2x16384.Idx → F .f32} {p t : ℕ → F .f32} (hp : Holds h fp p) (ht : Holds h ft t)
    {fe fw : S16.Idx → F .f32} {e : S11.Idx → F .f32} {w : S10.Idx → F .f32} (he : HoldsE fe e) (hw : HoldsW fw w)
    (hpre : ∀ k < 16384, (tick (t k)).toNat ≤ 14) (k : Fin k0_t1_loop.trips) (acc : FVec F S16 .f32) :
    (Held d L S fp ft fe fw : sProp 𝕄)
      ⊢ wp frame (wpE (defs₀ (F := F)) 𝒱₀ (V d (cV L) (jV L)) none) Set.univ
          (trip L off inb cA cB dA dB iA iB k0_pay10 k0_pay11 k0_pay12 k0_pay13 k acc)
          fun r => iprop(⌜r = fun x => FloatOps.addf (acc x) (term e w (p (16 * k.val + (x 0).val)) (t (16 * k.val + (x 0).val)))⌝ ∗ Held d L S fp ft fe fw) := by
  obtain ⟨cA1, h2⟩ := trip_val (inb k) (ho k) hp ht he hw k.isLt hpre acc
    ((bP).view.readAt (Elt F) (Rect.unit (s := S2x16384) (off k) S1x16.size (inb k)).toLoadRect fp)
    ((bT).view.readAt (Elt F) (Rect.unit (s := S2x16384) (off k) S1x16.size (inb k)).toLoadRect ft) rfl rfl
  obtain ⟨cB1, h3⟩ := h2 cA1
  have hsub : (Rect.unit (s := S2x16384) (off k) S1x16.size (inb k)).toLoadRect.set ⊆ S := mem_cell (inb k) (ho k) hS
  unfold trip
  iintro ⟨Hp, Ht, He, Hw⟩
  simp only [Prog.lift, Prog.bind_op, Prog.bind_ret, Prog.pure_eq_ret]
  iapply (wp_load 𝒱₀ (V d (cV L) (jV L)) none Set.univ (m := bP) (S := S) (setOn_bP hsub)) $$ Hp
  iintro Hp
  iapply (wp_load 𝒱₀ (V d (cV L) (jV L)) none Set.univ (m := bT) (S := S) (setOn_bT hsub)) $$ Ht
  iintro Ht
  rw [wp_assume_of _ _ _ _ (hA _ cA1)]
  iapply (SparseCore.wp_vectorLoadIdx 𝒱₀ (V d (cV L) (jV L)) none Set.univ (base := bE) (S := Finset.univ) (q := fullShare) (f := fe) (Finset.subset_univ _)) $$ [He]; · iexact He
  iintro He
  rw [Memref.read_access_whole]
  rw [wp_assume_of _ _ _ _ (hB _ cB1)]
  iapply (SparseCore.wp_vectorLoadIdx 𝒱₀ (V d (cV L) (jV L)) none Set.univ (base := bW) (S := Finset.univ) (q := fullShare) (f := fw) (Finset.subset_univ _)) $$ [Hw]; · iexact Hw
  iintro Hw
  rw [Memref.read_access_whole, wp_ret]
  imodintro
  isplitr
  · ipureintro; exact h3 cB1
  isplitl [Hp]; · iexact Hp
  isplitl [Ht]; · iexact Ht
  isplitl [He]; · iexact He
  iexact Hw

/-- The loop: from the accumulator, the accumulator with the chunk's terms added, lane `x` taking elements `x`, `16 + x`, …. -/
theorem wp_chunk {off : Fin k0_t1_loop.trips → Fin 2 → ℕ} {inb : ∀ t a, off t a + S1x16.size a ≤ S2x16384.size a}
    {cA cB : IVec S16 32 → Prop} {dA : ∀ v, Decidable (cA v)} {dB : ∀ v, Decidable (cB v)}
    {iA : ∀ v, cA v → ∀ a x, ((![v] : Fin 1 → IVec S16 32) a x).toNat < S16.size a}
    {iB : ∀ v, cB v → ∀ a x, ((![v] : Fin 1 → IVec S16 32) a x).toNat < S16.size a}
    (hA : ∀ v, (∀ a x, ((![v] : Fin 1 → IVec S16 32) a x).toNat < S16.size a) → cA v)
    (hB : ∀ v, (∀ a x, ((![v] : Fin 1 → IVec S16 32) a x).toNat < S16.size a) → cB v)
    {h : Fin 2} (ho : ∀ t, off t = ![h.val, 16 * t.val])
    {S : Finset S2x16384.Idx} (hS : ∀ n, cell h n ∈ S)
    {fp ft : S2x16384.Idx → F .f32} {p t : ℕ → F .f32} (hp : Holds h fp p) (ht : Holds h ft t)
    {fe fw : S16.Idx → F .f32} {e : S11.Idx → F .f32} {w : S10.Idx → F .f32} (he : HoldsE fe e) (hw : HoldsW fw w)
    (hpre : ∀ k < 16384, (tick (t k)).toNat ≤ 14) (acc : FVec F S16 .f32) :
    (Held d L S fp ft fe fw : sProp 𝕄)
      ⊢ wp frame (wpE (defs₀ (F := F)) 𝒱₀ (V d (cV L) (jV L)) none) Set.univ
          (Scf.Loop.for k0_t1_loop k0_t1_ok acc (trip L off inb cA cB dA dB iA iB k0_pay10 k0_pay11 k0_pay12 k0_pay13))
          fun r => iprop(⌜r = fun x => run (fun k => term e w (p (16 * k + (x 0).val)) (t (16 * k + (x 0).val))) (acc x) 1024⌝ ∗ Held d L S fp ft fe fw) := by
  iintro H
  iapply (Scf.wp_for frame (wpE (defs₀ (F := F)) 𝒱₀ (V d (cV L) (jV L)) none) Set.univ _ _ _ k0_t1_ok acc _
    (fun n r => iprop(⌜r = fun x => run (fun k => term e w (p (16 * k + (x 0).val)) (t (16 * k + (x 0).val))) (acc x) n⌝ ∗ Held d L S fp ft fe fw))
    (fun k r => by
      iintro ⟨%hr, H⟩
      subst hr
      iapply (wp_trip d L (iA := iA) (iB := iB) (dA := dA) (dB := dB) hA hB ho hS hp ht he hw hpre k _)
      iexact H))
  isplitl [H]
  · isplitr; · ipureintro; rfl
    iexact H
  · iintro %r ⟨%hr, H⟩
    isplitr; · ipureintro; exact hr
    iexact H

end Cert.Proof.Loss

end
-- ==== Proof.Block.lean ====
/-
  One block of the TensorCore half: what its body adds to the running total, and its run on whole buffers.
-/
module

public import proofs.«01_k».proof.Proof.Chunk
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.Pipeline.Value

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The one index of a one-word read. -/
abbrev i0 : S1.Idx := Shape.Idx.first (s := S1) (numel1_S1.symm ▸ Nat.one_pos)

/-- What a block leaves in the total: the weighted squares of its elements, summed, added to `a`. -/
def blockStep (e : S11.Idx → F .f32) (w : S10.Idx → F .f32) (p t : S4096x128.Idx → F .f32) (a : F .f32) : F .f32 :=
  k1_pay1 (k1_pay2 t) (k1_pay3 p t)
    (k1_pay6 (k1_pay2 t)
      (k1_pay4 t (w (pos 10 0)) (e (pos 11 1)) (w (pos 10 1)) (w (pos 10 0)) (e (pos 11 2)) (w (pos 10 2)) (w (pos 10 1)) (e (pos 11 3)) (w (pos 10 3)) (w (pos 10 2)))
      (k1_pay5 (e (pos 11 4))) (w (pos 10 4)) (w (pos 10 3)) (e (pos 11 5)) (w (pos 10 5)) (w (pos 10 4)) (e (pos 11 6)) (w (pos 10 6)) (w (pos 10 5)) (e (pos 11 7)) (w (pos 10 7)) (w (pos 10 6)))
    (k1_pay7 (k1_pay2 t) (e (pos 11 8))) (w (pos 10 8)) (w (pos 10 7)) (e (pos 11 9)) (w (pos 10 9)) (w (pos 10 8)) a

/-- Word `k` of the edges, of the weights. -/
theorem unit11 (k : ℕ) (inb : ∀ a, (![k] : Fin 1 → ℕ) a + (![1] : Fin 1 → ℕ) a ≤ S11.size a) (x : (Rect.unit (s := S11) ![k] ![1] inb).shape.Idx) :
    (Rect.unit (s := S11) ![k] ![1] inb).idx x = pos 11 k := by
  refine eq_pos _ ?_
  show k + 1 * (x 0).val = k
  have := (x 0).isLt; change (x 0).val < 1 at this; omega
theorem unit10 (k : ℕ) (inb : ∀ a, (![k] : Fin 1 → ℕ) a + (![1] : Fin 1 → ℕ) a ≤ S10.size a) (x : (Rect.unit (s := S10) ![k] ![1] inb).shape.Idx) :
    (Rect.unit (s := S10) ![k] ![1] inb).idx x = pos 10 k := by
  refine eq_pos _ ?_
  show k + 1 * (x 0).val = k
  have := (x 0).isLt; change (x 0).val < 1 at this; omega

/-- The total's one index. -/
abbrev z0 : S1x1.Idx := Shape.Idx.first (s := S1x1) (numel1_S1x1.symm ▸ Nat.one_pos)

theorem eq_z0 (j k : S1x1.Idx) : j = k := by
  funext a
  have h := (j a).isLt
  have h' := (k a).isLt
  apply Fin.ext
  match a with
  | 0 => change _ < 1 at h h'; omega
  | 1 => change _ < 1 at h h'; omega

/-- Memref `M`'s buffer on core `c`, held whole at `f`. -/
abbrev ptm (c : Dev nD) {sp : Space} {s : Shape} {e : EltTy} (M : Memref sig .tc sp s e) (f : Buf (Elt F) (M.view.loc (SparseCore.T c : Thread nD τ))) : sProp 𝕄 :=
  M.view.loc (SparseCore.T c : Thread nD τ) ↦{fullShare} f

theorem off00 : (![0, 0] : Fin 2 → ℕ) = fun _ => 0 := funext fun a => match a with | 0 => rfl | 1 => rfl

/-- The one-word total after a store: the word stored, whatever was there. -/
theorem stored (M5 : Memref sig .tc .smem S1x1 .f32) (h5 : M5.IsWhole) (f : M5.view.ty.Contents (Elt F)) {x y : F .f32}
    {l : List (View.Piece (Elt F) S1x1 .f32)} (hxy : x = y) :
    M5.view.writes (Elt F) f (⟨Rect.unit (s := S1x1) ![0, 0] S1x1.size inb_S1x1_S1x1_0_0, fun _ => x⟩ :: l) = h5.unread fun _ => y := by
  subst hxy
  refine h5.eq_unread (funext fun j => ?_)
  rw [eq_z0 j ((Rect.unit (s := S1x1) ![0, 0] S1x1.size inb_S1x1_S1x1_0_0).emb z0)]
  exact View.read_writes_cons_emb ..

/-- The body at grid point `i`, on whole buffers: the inputs stay, the total's word becomes the block's step from zero
    at the first point, from what it held at the others. -/
theorem block_body (c : Dev nD) (i : grid1.Coords)
    (M1 : Memref sig .tc .smem S11 .f32) (h1 : M1.IsWhole) (M2 : Memref sig .tc .smem S10 .f32) (h2 : M2.IsWhole)
    (M3 : Memref sig .tc .vmem S4096x128 .f32) (h3 : M3.IsWhole) (M4 : Memref sig .tc .vmem S4096x128 .f32) (h4 : M4.IsWhole)
    (M5 : Memref sig .tc .smem S1x1 .f32) (h5 : M5.IsWhole)
    (e : S11.Idx → F .f32) (w : S10.Idx → F .f32) (p t : S4096x128.Idx → F .f32) (a : S1x1.Idx → F .f32) (Q : PUnit → sProp 𝕄) :
    iprop(ptm c M1 (h1.unread e) ∗ ptm c M2 (h2.unread w) ∗ ptm c M3 (h3.unread p) ∗ ptm c M4 (h4.unread t) ∗ ptm c M5 (h5.unread a)
      ∗ (iprop(ptm c M1 (h1.unread e) ∗ ptm c M2 (h2.unread w) ∗ ptm c M3 (h3.unread p) ∗ ptm c M4 (h4.unread t)
          ∗ ptm c M5 (h5.unread fun _ => blockStep e w p t (if (i 0).val = 0 then FloatOps.ofBits .f32 0x00000000#32 else a z0))) -∗ Q ⟨⟩))
    ⊢ wp frame (wpE (defs₀ (F := F)) 𝒱₀ (SparseCore.T c) none) Set.univ (cc1_body i M1 h1 M2 h2 M3 h3 M4 h4 M5 h5) Q := by
  have hi : (i 0).val < 9 := (i 0).isLt
  rw [cc1_body_eq_skeleton]
  by_cases h0 : (i 0).val = 0
  · have hc : Scalar.cmpi .ne (Scalar.extui (Scalar.cmpi .eq (BitVec.ofNat 32 (i 0).val) 0#32)) 0#32 = 1#1 := by rw [h0]; rfl
    rw [if_pos h0]
    iintro ⟨H1, H2, H3, H4, H5, Hk⟩
    sl_exec
    sl_step
    rw [stored M5 h5 (y := blockStep e w p t (FloatOps.ofBits .f32 0x00000000#32))]
    · iapply Hk
      isplitl [H1]; · iexact H1
      isplitl [H2]; · iexact H2
      isplitl [H3]; · iexact H3
      isplitl [H4]; · iexact H4
      iexact H5
    · sl_unfold_words
      simp only [View.readAt_eq_ld, Memref.IsWhole.read_unread]
      rw [View.ld_unit_zero off00, View.ld_unit_zero off00]
      simp only [View.ld, unit11, unit10]
      exact rfl
  · have hc : ¬ Scalar.cmpi .ne (Scalar.extui (Scalar.cmpi .eq (BitVec.ofNat 32 (i 0).val) 0#32)) 0#32 = 1#1 := by
      rcases Nat.lt_or_ge (i 0).val 1 with h | h
      · omega
      · interval_cases (i 0).val <;> decide
    rw [if_neg h0]
    iintro ⟨H1, H2, H3, H4, H5, Hk⟩
    sl_exec
    sl_step
    rw [stored M5 h5 (y := blockStep e w p t (a z0))]
    · iapply Hk
      isplitl [H1]; · iexact H1
      isplitl [H2]; · iexact H2
      isplitl [H3]; · iexact H3
      isplitl [H4]; · iexact H4
      iexact H5
    · sl_unfold_words
      simp only [View.readAt_eq_ld, Memref.IsWhole.read_unread]
      rw [View.ld_unit_zero off00, View.ld_unit_zero off00]
      simp only [View.ld, unit11, unit10]
      exact congrArg (blockStep e w p t) (congrArg a (eq_z0 _ _))

end Cert.Proof.Loss

end
-- ==== Proof.Region.lean ====
/-
  The TensorCore half as a region of @main: what each point's staging buffers hold, the running total point by point,
  and the total's array after the last point.
-/
module

public import proofs.«01_k».proof.Proof.Block
public import Idealize.ShloMosaic.Lib.Pipeline.Regions
public import Idealize.ShloMosaic.Lib.Pipeline.RegionsLoop
public import Idealize.ShloMosaic.Lib.Pipeline.FrameBody
public import Idealize.ShloMosaic.Lib.Pipeline.Value

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

-- The arrays when the region is entered, by buffer.
variable (A : (d : Dev nD) → (b : Ref sig .tc) → Buf (Elt F) ((SparseCore.T d : Thread nD τ).loc b))

/-- Row `(7 + n) * 4096 + x₀`, column `x₁`: element `x` of the block at point `n`. -/
def cellAt (n : ℕ) (x : S4096x128.Idx) : S65536x128.Idx := fun a => match a with
  | 0 => ⟨((7 + n) * 4096 + (x 0).val) % 65536, Nat.mod_lt _ (by decide)⟩
  | 1 => x 1

/-- The predictions' and the targets' block at point `n`. -/
def pBlock (d : Dev nD) (n : ℕ) : S4096x128.Idx → F .f32 := fun x => A d main_v1 (cellAt n x)
def tBlock (d : Dev nD) (n : ℕ) : S4096x128.Idx → F .f32 := fun x => A d main_v2 (cellAt n x)

/-- The total after `n` blocks. -/
def total (d : Dev nD) : ℕ → F .f32
  | 0 => FloatOps.ofBits .f32 0x00000000#32
  | n + 1 => blockStep (A d main_arg2) (A d main_arg3) (pBlock A d n) (tBlock A d n) (total d n)

theorem coord_val : ∀ t : Fin grid1.N, (grid1.coords t 0).val = t.val := by decide +kernel
theorem index2 : ∀ t : Fin grid1.N, win1_2.index t 0 = 7 + t.val ∧ win1_2.index t 1 = 0 := by decide +kernel
theorem index3 : ∀ t : Fin grid1.N, win1_3.index t 0 = 7 + t.val ∧ win1_3.index t 1 = 0 := by decide +kernel

theorem read0 (t : Fin grid1.N) (f : S11.Idx → F .f32) : (win1_0.blk t).view.read (Elt F) f = f := by
  funext x
  show f ((win1_0.rect t).emb x) = f x
  congr 1
  funext a
  match a with
  | 0 => exact Fin.ext (win1_0.rect_emb_val_of_index_zero t 0 rfl x)
theorem read1 (t : Fin grid1.N) (f : S10.Idx → F .f32) : (win1_1.blk t).view.read (Elt F) f = f := by
  funext x
  show f ((win1_1.rect t).emb x) = f x
  congr 1
  funext a
  match a with
  | 0 => exact Fin.ext (win1_1.rect_emb_val_of_index_zero t 0 rfl x)
theorem read2 (t : Fin grid1.N) (f : S65536x128.Idx → F .f32) : (win1_2.blk t).view.read (Elt F) f = fun x => f (cellAt t.val x) := by
  funext x
  show f ((win1_2.rect t).emb x) = _
  congr 1
  funext a
  have hx := (x 0).isLt; change (x 0).val < 4096 at hx
  have ht : t.val < 9 := t.isLt
  match a with
  | 0 =>
    refine Fin.ext ((win1_2.rect_emb_val t x 0).trans ?_)
    rw [(index2 t).1]
    show (7 + t.val) * 4096 + (x 0).val = ((7 + t.val) * 4096 + (x 0).val) % 65536
    omega
  | 1 => exact Fin.ext (win1_2.rect_emb_val_of_index_zero t 1 (index2 t).2 x)
theorem read3 (t : Fin grid1.N) (f : S65536x128.Idx → F .f32) : (win1_3.blk t).view.read (Elt F) f = fun x => f (cellAt t.val x) := by
  funext x
  show f ((win1_3.rect t).emb x) = _
  congr 1
  funext a
  have hx := (x 0).isLt; change (x 0).val < 4096 at hx
  have ht : t.val < 9 := t.isLt
  match a with
  | 0 =>
    refine Fin.ext ((win1_3.rect_emb_val t x 0).trans ?_)
    rw [(index3 t).1]
    show (7 + t.val) * 4096 + (x 0).val = ((7 + t.val) * 4096 + (x 0).val) % 65536
    omega
  | 1 => exact Fin.ext (win1_3.rect_emb_val_of_index_zero t 1 (index3 t).2 x)

/-! ## The proof data -/

/-- The pairs a core may have waited on by the time the one call has returned: those of level at most 8. -/
def recorded (d : Dev nD) : Set (SemLoc sig × HIx 1) := {p | (K (F := F)).lev (SparseCore.T d, p.1) p.2 ≤ 8}

/-- The arrays as the region finds them; after each point's body the inputs' buffers at their blocks and the total's at
    the total so far; nothing owed. -/
def dats (_ : Fin 1) (c : Dev nD) : Dat τ (Elt F) (HIx 1) ℕ UU ℕ cfg1 c where
  A w := A c (Pipeline.arrRef spec1 w)
  after w t := match w with
    | ⟨0, _⟩ => A c main_arg2
    | ⟨1, _⟩ => A c main_arg3
    | ⟨2, _⟩ => pBlock A c t.val
    | ⟨3, _⟩ => tBlock A c t.val
    | ⟨4, _⟩ => fun _ => total A c (t.val + 1)
  Φ _ := iprop(emp)
  q _ := fullShare
  owed _ := 0
  recorded _ := recorded (F := F) c

theorem before0 (c : Dev nD) (t : Fin cfg1.N) (d) : (dats A 0 c).before 0 t d = A c main_arg2 := by
  rw [(dats A 0 c).before_in_eq_fetched 0 rfl (fun _ => rfl) (fun _ _ _ => rfl) (fun t => (read0 (F := F) t _).symm) t d]
  exact read0 (F := F) t _
theorem before1 (c : Dev nD) (t : Fin cfg1.N) (d) : (dats A 0 c).before 1 t d = A c main_arg3 := by
  rw [(dats A 0 c).before_in_eq_fetched 1 rfl (fun _ => rfl) (fun _ _ _ => rfl) (fun t => (read1 (F := F) t _).symm) t d]
  exact read1 (F := F) t _
theorem before2 (c : Dev nD) (t : Fin cfg1.N) (d) : (dats A 0 c).before 2 t d = pBlock A c t.val := by
  rw [(dats A 0 c).before_fetched 2 t (fetch1_2 t) d]
  exact read2 (F := F) t _
theorem before3 (c : Dev nD) (t : Fin cfg1.N) (d) : (dats A 0 c).before 3 t d = tBlock A c t.val := by
  rw [(dats A 0 c).before_fetched 3 t (fetch1_3 t) d]
  exact read3 (F := F) t _
theorem before4 (c : Dev nD) (t : Fin cfg1.N) (ht : t.val ≠ 0) (d) : (dats A 0 c).before 4 t d = fun _ => total A c t.val := by
  have hlt : t.val < 9 := t.isLt
  rw [(dats A 0 c).before_out_kept 4 rfl t ht (Bool.eq_false_iff.mpr fun h => by have := (flush1_4 _).mp h; simp only at this; omega) (fun _ => rfl) (fun _ _ => rfl) d]
  show (fun _ => total A c (t.val - 1 + 1)) = _
  rw [Nat.sub_add_cancel (Nat.pos_of_ne_zero ht)]

/-- A whole memref owned at `X` is its buffer at the contents that read `X`, both ways. -/
theorem owns_ptm (c : Dev nD) {sp : Space} {sh : Shape} {e : EltTy} {M : Memref sig .tc sp sh e} (h : M.IsWhole) (X : sh.Idx → Elt F e) :
    owns (Ix := HIx 1) (Name := ℕ) (U := UU) (Lvl := ℕ) (SparseCore.T c : Thread nD τ) M fullShare X ⊢ (ptm c M (h.unread X) : sProp 𝕄) := by
  unfold owns
  rw [h.set_eq_univ]
  iintro ⟨%f, %hf, H⟩
  obtain rfl := h.eq_unread hf
  iexact H
theorem ptm_owns (c : Dev nD) {sp : Space} {sh : Shape} {e : EltTy} {M : Memref sig .tc sp sh e} (h : M.IsWhole) (X Y : sh.Idx → Elt F e) (hXY : X = Y) :
    (ptm c M (h.unread X) : sProp 𝕄) ⊢ owns (Ix := HIx 1) (Name := ℕ) (U := UU) (Lvl := ℕ) (SparseCore.T c : Thread nD τ) M fullShare Y := by
  unfold owns
  rw [h.set_eq_univ]
  iintro H
  iexists _
  isplitr; swap; · iexact H
  ipureintro
  rw [h.read_unread, hXY]

theorem body_obligation (c : Dev nD) : BodyObligation (dats A 0 c) (defs₀ (F := F)) 𝒱₀ none Set.univ := fun t => by
  rw [bigSep_W1, bigSep_W1]
  rw [show (dats A 0 c).Φ t.castSucc = iprop(emp) from rfl, show (dats A 0 c).Φ t.succ = iprop(emp) from rfl]
  rw [show (dats A 0 c).owesAt none t.succ = (dats A 0 c).owesAt none t.castSucc from rfl]
  rw [show defs₀ (F := F) .tc cfg1.body (cfg1.bodyArgs t (cfg1.slots t)) = bodyAt1 t from rfl]
  show iprop(emp ∗ (dats A 0 c).owesAt none t.castSucc ∗
    (∃ d, owns c.tc (st1_0 t) fullShare ((dats A 0 c).before 0 t d)) ∗ (∃ d, owns c.tc (st1_1 t) fullShare ((dats A 0 c).before 1 t d)) ∗
    (∃ d, owns c.tc (st1_2 t) fullShare ((dats A 0 c).before 2 t d)) ∗ (∃ d, owns c.tc (st1_3 t) fullShare ((dats A 0 c).before 3 t d)) ∗
    (∃ d, owns c.tc (st1_4 t) fullShare ((dats A 0 c).before 4 t d))) ⊢ wp frame (wpE defs₀ 𝒱₀ (SparseCore.T c) none) Set.univ (bodyAt1 t) fun _ =>
    iprop(emp ∗ (dats A 0 c).owesAt none t.castSucc ∗ owns c.tc (st1_0 t) fullShare (A c main_arg2) ∗ owns c.tc (st1_1 t) fullShare (A c main_arg3) ∗
      owns c.tc (st1_2 t) fullShare (pBlock A c t.val) ∗ owns c.tc (st1_3 t) fullShare (tBlock A c t.val) ∗
      owns c.tc (st1_4 t) fullShare (fun _ => total A c (t.val + 1)))
  simp only [before0, before1, before2, before3]
  iintro ⟨-, HO, ⟨%d0, H0⟩, ⟨%d1, H1⟩, ⟨%d2, H2⟩, ⟨%d3, H3⟩, ⟨%d4, H4⟩⟩
  have h0 := hstage1_0 ((cfg1.slots t 0).cast nbuf1_0)
  have h1 := hstage1_1 ((cfg1.slots t 1).cast nbuf1_1)
  have h2 := hstage1_2 ((cfg1.slots t 2).cast nbuf1_2)
  have h3 := hstage1_3 ((cfg1.slots t 3).cast nbuf1_3)
  have h4 := hstage1_4 ((cfg1.slots t 4).cast nbuf1_4)
  iapply (block_body c (grid1.coords t) _ h0 _ h1 _ h2 _ h3 _ h4
    (A c main_arg2) (A c main_arg3) (pBlock A c t.val) (tBlock A c t.val) ((dats A 0 c).before 4 t d4))
  isplitl [H0]; · iapply (owns_ptm c h0 _); iexact H0
  isplitl [H1]; · iapply (owns_ptm c h1 _); iexact H1
  isplitl [H2]; · iapply (owns_ptm c h2 _); iexact H2
  isplitl [H3]; · iapply (owns_ptm c h3 _); iexact H3
  isplitl [H4]; · iapply (owns_ptm c h4 _); iexact H4
  iintro ⟨H0, H1, H2, H3, H4⟩
  isplitr; · iempintro
  isplitl [HO]; · iexact HO
  isplitl [H0]; · iapply (ptm_owns c h0 _ _ rfl) $$ H0
  isplitl [H1]; · iapply (ptm_owns c h1 _ _ rfl) $$ H1
  isplitl [H2]; · iapply (ptm_owns c h2 _ _ rfl) $$ H2
  isplitl [H3]; · iapply (ptm_owns c h3 _ _ rfl) $$ H3
  iapply (ptm_owns c h4 _ _ ?_) $$ H4
  funext _
  rw [coord_val]
  show _ = blockStep _ _ _ _ _
  congr 1
  by_cases ht : t.val = 0
  · rw [if_pos ht, ht]; rfl
  · rw [if_neg ht, before4 A c t ht]

/-! ## The region: entered and left with every buffer at a valuation -/

/-- The pipeline's rounds library: the left half of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

abbrev adm (p : Fin 1) : (pcfgs (F := F) p).Adm := (cfgs p).toPCfg_adm

/-- The buffers after the region: the total's at the sum of the nine blocks. -/
def left (d : Dev nD) (b : Ref sig .tc) : Buf (Elt F) ((SparseCore.T d : Thread nD τ).loc b) :=
  Function.update (A d) main_v3 (fun _ : S1x1.Idx => total A d 9) b

theorem left_other (d : Dev nD) (b : Ref sig .tc) (h : b ≠ main_v3) : left A d b = A d b := Function.update_of_ne h _ _
theorem left_v3 (d : Dev nD) : left A d main_v3 = (fun _ : S1x1.Idx => total A d 9) := by
  unfold left; rw [Function.update_self]

theorem final_total (c : Dev nD) : (dats A 0 c).arrAt 4 cfg1.N = (fun _ : S1x1.Idx => total A c 9) := by
  refine (dats A 0 c).arrAt_eq_of_cover 4 _ (fun t ht => ?_) (fun i => ⟨t1_8, (flush1_4 t1_8).mpr rfl, ?_⟩)
  · have h8 : t.val = 8 := by have := (flush1_4 t).mp ht; have : t.val < 9 := t.isLt; omega
    show (fun _ => total A c (t.val + 1)) = _
    rw [h8]; rfl
  · exact Finset.mem_map.mpr ⟨z0, Finset.mem_univ _, eq_z0 _ _⟩

theorem final_eq (c : Dev nD) (w : Fin 5) : (dats A 0 c).arrAt w cfg1.N = left A c (Pipeline.arrRef spec1 w) := by
  match w with
  | 0 => exact ((dats A 0 c).arrAt_in 0 rfl _).trans (left_other A c main_arg2 (by decide)).symm
  | 1 => exact ((dats A 0 c).arrAt_in 1 rfl _).trans (left_other A c main_arg3 (by decide)).symm
  | 2 => exact ((dats A 0 c).arrAt_in 2 rfl _).trans (left_other A c main_v1 (by decide)).symm
  | 3 => exact ((dats A 0 c).arrAt_in 3 rfl _).trans (left_other A c main_v2 (by decide)).symm
  | 4 => exact (final_total A c).trans (left_v3 A c).symm

theorem left_off (c : Dev nD) (b : Ref sig .tc) (h : b ∉ Finset.univ.image (Pipeline.arrRef spec1)) : left A c b = A c b :=
  left_other A c b fun e => h (Finset.mem_image.mpr ⟨4, Finset.mem_univ _, e.symm⟩)

theorem A_eq (c : Dev nD) (w : Fin cfg1.W) : (dats A 0 c).A w = A c (Pipeline.arrRef spec1 w) := by dsimp only [dats]

/-- What the core owes beside the region: nothing, its waits those of the one call. -/
abbrev idle (d : Dev nD) : sProp 𝕄 :=
  iprop(∃ W, ⌜(K (F := F)).WBelow (SparseCore.T d) W 8⌝ ∗ owes (SparseCore.T d : Thread nD τ) (0 : CellTallies nD τ sig (HIx 1)) W)

set_option backward.isDefEq.respectTransparency.types false in
/-- The region's record: every unscoped buffer at `A` before, at `left A` after. -/
def region : Pipeline.RegionSeg (pcfgs (F := F)) adm (dats A) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A c).loose
  hwaits := Pipeline.hwaits_of_owed_zero _ _ _ _ (K (F := F)).L (K (F := F)).lev 0 fun _ _ => rfl
  pre c := iprop(unscopedBufs c (A c) ∗ idle c)
  post c := iprop(unscopedBufs c (left A c) ∗ idle c)
  X _ := iprop(emp)
  Y _ := iprop(emp)
  Z c := Pipeline.unscopedRest spec1 c (A c)
  hentry c := by
    rw [Pipeline.ownSems0_none]
    have hsplit := Pipeline.arrays_of_unscopedBufs (pcfgs (F := F)) adm (dats A) launch1.win launch1.arr_whole c
      ((dats A 0 c).share_full fun _ => rfl) (A c) (A_eq A c)
    iintro ⟨⟨Hub, ⟨%W, %hW, HO⟩⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hz
  hin c := by
    rw [show (dats A 0 c).Φ 0 = iprop(emp) from rfl]
    iintro -
    iempintro
  hout c := by
    rw [Pipeline.ownSems0_none, show Pipeline.scopedRest (pcfgs (F := F) 0).spec c = (iprop(emp) : sProp 𝕄) from scopedRest1_eq c]
    iintro -
    isplitr; · iempintro
    isplitr; · iempintro
    iempintro
  hexit c := by
    have hjoin := Pipeline.unscopedBufs_of_arrays (pcfgs (F := F)) adm launch1.win launch1.arr_whole c (dats A)
      ((dats A 0 c).share_full fun _ => rfl) (A c) (left A c) ((dats A 0 c).arrAt · cfg1.N) (final_eq A c) (left_off A c)
    iintro ⟨Ha, HO, -, HZ⟩
    imodintro
    isplitl [Ha HZ]
    · iapply hjoin
      isplitl [Ha]; · iexact Ha
      iexact HZ
    · unfold Pipeline.Dat.owesAt Pipeline.owesWithin
      icases HO with ⟨%W, %hW, HO⟩; iexists W; isplitr
      · ipureintro
        intro p hp
        rcases hW hp with h | ⟨w, s, h⟩
        · exact h
        · rw [h]; exact Nat.zero_le _
      iexact HO

/-- What the launch gives a core for the region: its cells' ghost state and the transfers' tokens. -/
abbrev Fund (d : Dev nD) : sProp 𝕄 := iprop(Pipeline.cellsGhost (Pipeline.pin (pcfgs (F := F)) adm) EP 0 d ∗ Pipeline.toksInit (Pipeline.pin (pcfgs (F := F)) adm) EP 0 d)

/-- The region's call, before the SparseCore launch's effects are added. -/
abbrev entry : Prog (TpuEff nD τ sig (Elt F) (ΛP (F := F)) .tc) PUnit := .op (.customCall (Pipeline.entry 0) ()) .ret

theorem entry_lift : (Prog.lift (.customCall (SparseCore.inner (Pipeline.entry 0)) ()) : Prog (TpuEff nD τ sig (Elt F) (SparseCore.Sig (ΛP (F := F)) 1) .tc) PUnit)
    = SparseCore.liftProg (entry (F := F)) := rfl

theorem region_entry [∀ e, Nonempty (Elt F e)] (d : Dev nD) (Q : PUnit → sProp 𝕄) :
    iprop((iprop(boundary (SparseCore.T d : Thread nD τ) ∗ unscopedBufs d (left A d) ∗ idle d) -∗ Q ⟨⟩)
        ∗ boundary (SparseCore.T d : Thread nD τ) ∗ (unscopedBufs d (A d) ∗ idle d) ∗ levAts (K (F := F)).L (K (F := F)).lev ∗ Fund d)
      ⊢ wp frame (wpE (D (F := F)) 𝒱 (SparseCore.T d : Thread nD τ) none) Set.univ entry Q := by
  have h := (region A).wp (pcfgs (F := F)) adm (dats A) none cellOf_inj EP defs₀ 𝒱₀ (K (F := F)).L (K (F := F)).lev d none (fun _ h => nomatch h) .ret Q
  rw [show (region A).post d = iprop(unscopedBufs d (left A d) ∗ idle d) from rfl, show (region A).pre d = iprop(unscopedBufs d (A d) ∗ idle d) from rfl] at h
  simp only [wp_ret] at h
  iintro ⟨Hk, Hb, Hp, Hl, Hc, Ht⟩
  iapply h
  isplitl [Hk]
  · iintro H
    imodintro
    iapply Hk; iexact H
  isplitl [Hb]; · iexact Hb
  isplitl [Hp]; · iexact Hp
  isplitl [Hl]; · iexact Hl
  isplitl [Hc] <;> iassumption

/-- The region's call, on the TensorCore as @main runs it. -/
theorem region_call [∀ e, Nonempty (Elt F e)] (d : Dev nD) (Q : PUnit → sProp 𝕄) :
    iprop((iprop(boundary (SparseCore.T d : Thread nD τ) ∗ unscopedBufs d (left A d) ∗ idle d) -∗ Q ⟨⟩)
        ∗ boundary (SparseCore.T d : Thread nD τ) ∗ (unscopedBufs d (A d) ∗ idle d) ∗ levAts (K (F := F)).L (K (F := F)).lev ∗ Fund d)
      ⊢ wp frame (wpE ((K (F := F)).defs (D (F := F))) 𝒱 (SparseCore.T d : Thread nD τ) none) Set.univ
          (Prog.lift (.customCall (SparseCore.inner (Pipeline.entry 0)) ())) Q := by
  rw [entry_lift]
  exact (region_entry A d Q).trans ((K (F := F)).wp_liftProg (D (F := F)) 𝒱 (SparseCore.T d) Set.univ none entry Q)

end Cert.Proof.Loss

end
-- ==== Proof.Tile.lean ====
/-
  One vector subcore's task of the SparseCore half, at a symbolic subcore: the edges and the weights fetched and the
  weights rearranged, seven chunks copied in by two halves in turn and summed, and the sixteen lane sums copied out to
  the subcore's row.
-/
module

public import proofs.«01_k».proof.Proof.Chunk

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 1) (Elt F) ℕ UU ℕ

local notation "bP" => (Memref.whole Cert.KernelIdeal.cc0_scratch0 : Memref Cert.KernelIdeal.sig Kind.scVector Space.vmem Cert.KernelIdeal.S2x16384 EltTy.f32)
local notation "bT" => (Memref.whole Cert.KernelIdeal.cc0_scratch1 : Memref Cert.KernelIdeal.sig Kind.scVector Space.vmem Cert.KernelIdeal.S2x16384 EltTy.f32)
local notation "bE" => (Memref.whole Cert.KernelIdeal.cc0_scratch2 : Memref Cert.KernelIdeal.sig Kind.scVector Space.vmem Cert.KernelIdeal.S16 EltTy.f32)
local notation "bW" => (Memref.whole Cert.KernelIdeal.cc0_scratch3 : Memref Cert.KernelIdeal.sig Kind.scVector Space.vmem Cert.KernelIdeal.S16 EltTy.f32)
local notation "bA" => (Memref.whole Cert.KernelIdeal.cc0_scratch4 : Memref Cert.KernelIdeal.sig Kind.scVector Space.vmem Cert.KernelIdeal.S16 EltTy.f32)
local notation "hP" => (Memref.whole Cert.KernelIdeal.main_arg0_scv : Memref Cert.KernelIdeal.sig Kind.scVector Space.hbm Cert.KernelIdeal.S8388608 EltTy.f32)
local notation "hT" => (Memref.whole Cert.KernelIdeal.main_arg1_scv : Memref Cert.KernelIdeal.sig Kind.scVector Space.hbm Cert.KernelIdeal.S8388608 EltTy.f32)
local notation "hE" => (Memref.whole Cert.KernelIdeal.main_arg2_scv : Memref Cert.KernelIdeal.sig Kind.scVector Space.hbm Cert.KernelIdeal.S11 EltTy.f32)
local notation "hW" => (Memref.whole Cert.KernelIdeal.main_arg3_scv : Memref Cert.KernelIdeal.sig Kind.scVector Space.hbm Cert.KernelIdeal.S10 EltTy.f32)
local notation "hO" => (Memref.whole Cert.KernelIdeal.main_v0_scv : Memref Cert.KernelIdeal.sig Kind.scVector Space.hbm Cert.KernelIdeal.S32x16 EltTy.f32)

/-! ## The launch memory -/

variable (m : (ℓ : Loc nD τ sig) → Buf (Elt F) ℓ)

abbrev pLoc (d : Dev nD) : Loc nD τ sig := (SparseCore.T d).loc main_arg0
abbrev tLoc (d : Dev nD) : Loc nD τ sig := (SparseCore.T d).loc main_arg1
abbrev eLoc (d : Dev nD) : Loc nD τ sig := (SparseCore.T d).loc main_arg2
abbrev wLoc (d : Dev nD) : Loc nD τ sig := (SparseCore.T d).loc main_arg3
abbrev oLoc (d : Dev nD) : Loc nD τ sig := (SparseCore.T d).loc main_v0

/-! ## The halves of the staging buffers -/

abbrev P0 : Memref sig .scVector .vmem S16384 .f32 := ((bP).slice (Rect.unit (s := S2x16384) ![0, 0] S1x16384.size inb_S2x16384_S1x16384_0_0) (fun _ => rfl)).squeeze S16384 squeezes_S1x16384_S16384
abbrev P1 : Memref sig .scVector .vmem S16384 .f32 := ((bP).slice (Rect.unit (s := S2x16384) ![1, 0] S1x16384.size inb_S2x16384_S1x16384_1_0) (fun _ => rfl)).squeeze S16384 squeezes_S1x16384_S16384
abbrev T0 : Memref sig .scVector .vmem S16384 .f32 := ((bT).slice (Rect.unit (s := S2x16384) ![0, 0] S1x16384.size inb_S2x16384_S1x16384_0_0) (fun _ => rfl)).squeeze S16384 squeezes_S1x16384_S16384
abbrev T1 : Memref sig .scVector .vmem S16384 .f32 := ((bT).slice (Rect.unit (s := S2x16384) ![1, 0] S1x16384.size inb_S2x16384_S1x16384_1_0) (fun _ => rfl)).squeeze S16384 squeezes_S1x16384_S16384

/-- The elements of row `h`. -/
def half (h : Fin 2) : Finset S2x16384.Idx := Finset.univ.filter fun i => (i 0).val = h.val

theorem mem_half {h : Fin 2} {i : S2x16384.Idx} : i ∈ half h ↔ (i 0).val = h.val := by simp [half]

theorem cell_mem (h : Fin 2) (n : ℕ) : cell h n ∈ half h := mem_half.mpr rfl

/-- Element `x` of a half, squeezed, is its row's column `x`. -/
theorem emb_half {off : Fin 2 → ℕ} (inb : ∀ a, off a + S1x16384.size a ≤ S2x16384.size a) {h : Fin 2} (ho : off = ![h.val, 0]) (x : S16384.Idx) :
    (Rect.unit (s := S2x16384) off S1x16384.size inb).emb (Shape.reshapeEquiv squeezes_S1x16384_S16384.numel_eq x) = cell h (x 0).val := by
  subst ho
  rw [Shape.reshapeEquiv_cons_one]
  funext a
  apply Fin.ext
  match a with
  | 0 => show h.val + 1 * 0 = h.val; omega
  | 1 =>
    show 0 + 1 * (x 0).val = (x 0).val % 16384
    have := (x 0).isLt; change (x 0).val < 16384 at this; omega

theorem set_row {off : Fin 2 → ℕ} (inb : ∀ a, off a + S1x16384.size a ≤ S2x16384.size a) {h : Fin 2} (ho : off = ![h.val, 0]) :
    (Rect.unit (s := S2x16384) off S1x16384.size inb).set = half h := by
  subst ho
  ext i
  rw [mem_half]; refine Rect.mem_set_unit.trans ?_
  constructor
  · intro hi
    obtain ⟨h1, h2⟩ := hi 0
    change h.val ≤ (i 0).val at h1; change (i 0).val < h.val + 1 at h2; omega
  · intro hi a
    match a with
    | 0 => exact ⟨show h.val ≤ (i 0).val by omega, show (i 0).val < h.val + 1 by omega⟩
    | 1 => exact ⟨Nat.zero_le _, show (i 1).val < 0 + 16384 from by have := (i 1).isLt; change (i 1).val < 16384 at this; omega⟩

theorem set_P0 : (P0).view.set = half 0 :=
  (View.set_reshape _ _).trans ((View.set_slice_whole cc0_scratch0 _).trans (set_row _ rfl))
theorem set_P1 : (P1).view.set = half 1 :=
  (View.set_reshape _ _).trans ((View.set_slice_whole cc0_scratch0 _).trans (set_row _ rfl))
theorem set_T0 : (T0).view.set = half 0 :=
  (View.set_reshape _ _).trans ((View.set_slice_whole cc0_scratch1 _).trans (set_row _ rfl))
theorem set_T1 : (T1).view.set = half 1 :=
  (View.set_reshape _ _).trans ((View.set_slice_whole cc0_scratch1 _).trans (set_row _ rfl))

theorem half_disjoint : Disjoint (half 0) (half 1) := Finset.disjoint_left.mpr fun i h0 h1 => by
  rw [mem_half] at h0 h1; rw [h0] at h1; exact absurd h1 (by decide)

theorem half_union : half 0 ∪ half 1 = Finset.univ := by
  ext i
  have := (i 0).isLt; change (i 0).val < 2 at this
  simp only [Finset.mem_union, mem_half, Finset.mem_univ, iff_true]
  show (i 0).val = 0 ∨ (i 0).val = 1
  omega

/-! ## What the copies leave -/

theorem lands_P0 (f : S2x16384.Idx → Elt F .f32) (w : S16384.Idx → Elt F .f32) {l : List (View.Piece (Elt F) S16384 .f32)} :
    Holds 0 ((P0).view.writes (Elt F) f (⟨Rect.whole S16384, w⟩ :: l)) fun n => w (pos 16384 n) := fun n hn => by
  have := View.write_emb_of_mem (Val := Elt F) (v := (P0).view.slice (Rect.whole S16384)) ((P0).view.writes (Elt F) f l) w (Finset.mem_univ (pos 16384 n))
  rw [show ((P0).view.slice (Rect.whole S16384)).emb (pos 16384 n) = cell 0 n from
    (congrArg (P0).view.emb (Rect.emb_whole_apply S16384 (pos 16384 n))).trans
      ((emb_half (h := 0) inb_S2x16384_S1x16384_0_0 rfl _).trans (by rw [pos_of_lt hn]))] at this
  exact this
theorem lands_P1 (f : S2x16384.Idx → Elt F .f32) (w : S16384.Idx → Elt F .f32) {l : List (View.Piece (Elt F) S16384 .f32)} :
    Holds 1 ((P1).view.writes (Elt F) f (⟨Rect.whole S16384, w⟩ :: l)) fun n => w (pos 16384 n) := fun n hn => by
  have := View.write_emb_of_mem (Val := Elt F) (v := (P1).view.slice (Rect.whole S16384)) ((P1).view.writes (Elt F) f l) w (Finset.mem_univ (pos 16384 n))
  rw [show ((P1).view.slice (Rect.whole S16384)).emb (pos 16384 n) = cell 1 n from
    (congrArg (P1).view.emb (Rect.emb_whole_apply S16384 (pos 16384 n))).trans
      ((emb_half (h := 1) inb_S2x16384_S1x16384_1_0 rfl _).trans (by rw [pos_of_lt hn]))] at this
  exact this
theorem lands_T0 (f : S2x16384.Idx → Elt F .f32) (w : S16384.Idx → Elt F .f32) {l : List (View.Piece (Elt F) S16384 .f32)} :
    Holds 0 ((T0).view.writes (Elt F) f (⟨Rect.whole S16384, w⟩ :: l)) fun n => w (pos 16384 n) := fun n hn => by
  have := View.write_emb_of_mem (Val := Elt F) (v := (T0).view.slice (Rect.whole S16384)) ((T0).view.writes (Elt F) f l) w (Finset.mem_univ (pos 16384 n))
  rw [show ((T0).view.slice (Rect.whole S16384)).emb (pos 16384 n) = cell 0 n from
    (congrArg (T0).view.emb (Rect.emb_whole_apply S16384 (pos 16384 n))).trans
      ((emb_half (h := 0) inb_S2x16384_S1x16384_0_0 rfl _).trans (by rw [pos_of_lt hn]))] at this
  exact this
theorem lands_T1 (f : S2x16384.Idx → Elt F .f32) (w : S16384.Idx → Elt F .f32) {l : List (View.Piece (Elt F) S16384 .f32)} :
    Holds 1 ((T1).view.writes (Elt F) f (⟨Rect.whole S16384, w⟩ :: l)) fun n => w (pos 16384 n) := fun n hn => by
  have := View.write_emb_of_mem (Val := Elt F) (v := (T1).view.slice (Rect.whole S16384)) ((T1).view.writes (Elt F) f l) w (Finset.mem_univ (pos 16384 n))
  rw [show ((T1).view.slice (Rect.whole S16384)).emb (pos 16384 n) = cell 1 n from
    (congrArg (T1).view.emb (Rect.emb_whole_apply S16384 (pos 16384 n))).trans
      ((emb_half (h := 1) inb_S2x16384_S1x16384_1_0 rfl _).trans (by rw [pos_of_lt hn]))] at this
  exact this

/-- Subcore `L`'s row, and its number. -/
def wid (L : grid0.Coords) : ℕ := 2 * (L 1).val + (L 0).val

theorem wid_lt (L : grid0.Coords) : wid L < 32 := by
  have h0 := (L 0).isLt; have h1 := (L 1).isLt
  change (L 0).val < 2 at h0; change (L 1).val < 16 at h1
  unfold wid; omega

/-- Chunk `c` of subcore `L`'s span, as a stretch of an array of 8388608. -/
def stretch (L : grid0.Coords) (c : ℕ) (x : S8388608.Idx → Elt F .f32) : ℕ → Elt F .f32 := fun n => x (pos 8388608 (114688 * wid L + 16384 * c + n))

/-- A chunk fetched is that stretch. -/
theorem fetched {b : BitVec 32} (r : Fin 7) (hb : b = BitVec.ofNat 32 (16384 * r.val)) (L : grid0.Coords)
    (inb : ∀ a, k0_off1 L b a + S16384.size a ≤ S8388608.size a) (x : S8388608.Idx → Elt F .f32) {n : ℕ} (hn : n < 16384) :
    x ((Rect.unit (s := S8388608) (k0_off1 L b) S16384.size inb).emb (pos 16384 n)) = stretch L r.val x n := by
  subst hb
  refine congrArg x (eq_pos _ ?_)
  show k0_off1 L _ 0 + 1 * ((pos 16384 n : S16384.Idx) 0).val = _
  rw [k0_off1_eq, pos_of_lt hn]
  show 229376 * (L 1).val + 114688 * (L 0).val + 16384 * r.val + 1 * n = _
  unfold wid; omega

theorem Holds.congr {h : Fin 2} {f : S2x16384.Idx → Elt F .f32} {p q : ℕ → Elt F .f32} (H : Holds h f p) (e : ∀ n < 16384, p n = q n) : Holds h f q :=
  fun n hn => (H n hn).trans (e n hn)

abbrev eDst : Memref sig .scVector .vmem S11 .f32 := (bE).slice (Rect.unit (s := S16) ![0] S11.size inb_S16_S11_0) (fun _ => rfl)
abbrev wDst : Memref sig .scVector .vmem S10 .f32 := (bW).slice (Rect.unit (s := S16) ![0] S10.size inb_S16_S10_0) (fun _ => rfl)
abbrev oRow (L : grid0.Coords) : Memref sig .scVector .hbm S16 .f32 := ((hO).slice (Rect.unit (s := S32x16) (k0_off9 L) S1x16.size (k0_off9_inb L)) (fun _ => rfl)).squeeze S16 squeezes_S1x16_S16

theorem lands_E (f : S16.Idx → F .f32) (e : S11.Idx → F .f32) :
    HoldsE (F := F) ((bE).view.writes (Elt F) f [⟨Rect.unit (s := S16) ![0] S11.size inb_S16_S11_0, e⟩]) e := fun n hn => by
  have := View.write_emb_of_mem (Val := Elt F) (v := (eDst).view) f e (Finset.mem_univ (pos 11 n))
  rw [show (eDst).view.emb (pos 11 n) = pos 16 n from eq_pos _ (by
    show 0 + 1 * ((pos 11 n : S11.Idx) 0).val = n; rw [pos_of_lt hn]; omega)] at this
  exact this

theorem lands_W₀ (f : S16.Idx → F .f32) (w : S10.Idx → F .f32) {n : ℕ} (hn : n < 10) :
    (bW).view.writes (Elt F) f [⟨Rect.unit (s := S16) ![0] S10.size inb_S16_S10_0, w⟩] (pos 16 n) = w (pos 10 n) := by
  have := View.write_emb_of_mem (Val := Elt F) (v := (wDst).view) f w (Finset.mem_univ (pos 10 n))
  rw [show (wDst).view.emb (pos 10 n) = pos 16 n from eq_pos _ (by
    show 0 + 1 * ((pos 10 n : S10.Idx) 0).val = n; rw [pos_of_lt hn]; omega)] at this
  exact this

/-- The lane numbers the weights are gathered by. -/
theorem gather_idx : ∀ n : Fin 16, (k0_pay14 (pos 16 n.val)).toNat = min (n.val - 1) 9 := by decide

theorem lands_W (f g : S16.Idx → F .f32) (w : S10.Idx → F .f32) (h : ∀ a x, ((![k0_pay14] : Fin 1 → IVec S16 32) a x).toNat < S16.size a) :
    HoldsW (F := F) ((bW).view.writes (Elt F) g [⟨Rect.unit (s := S16) ![0] S16.size inb_S16_S16_0,
      loadIdx (F := F) (s := S16) (e := .f32) ((bW).view.writes (Elt F) f [⟨Rect.unit (s := S16) ![0] S10.size inb_S16_S10_0, w⟩]) ![k0_pay14] h⟩]) w := fun n hn => by
  have := View.write_emb_of_mem (Val := Elt F) (v := (bW).view.slice (Rect.unit (s := S16) ![0] S16.size inb_S16_S16_0)) g
    (loadIdx (F := F) (s := S16) (e := .f32) ((bW).view.writes (Elt F) f [⟨Rect.unit (s := S16) ![0] S10.size inb_S16_S10_0, w⟩]) ![k0_pay14] h)
    (Finset.mem_univ (pos 16 n))
  rw [show ((bW).view.slice (Rect.unit (s := S16) ![0] S16.size inb_S16_S16_0)).emb (pos 16 n) = pos 16 n from eq_pos _ (by
    show 0 + 1 * ((pos 16 n : S16.Idx) 0).val = n; rw [pos_of_lt hn]; omega)] at this
  refine this.trans ?_
  show (bW).view.writes (Elt F) f [⟨Rect.unit (s := S16) ![0] S10.size inb_S16_S10_0, w⟩] (idxAt (s := S16) ![k0_pay14] h (pos 16 n)) = _
  rw [idxAt_eq, gather_idx ⟨n, hn⟩]
  exact lands_W₀ f w (by show min (n - 1) 9 < 10; omega)

/-- Row `w` of the partial sums. -/
def rowSet (w : ℕ) : Finset S32x16.Idx := Finset.univ.filter fun i => (i 0).val = w

theorem mem_rowSet {w : ℕ} {i : S32x16.Idx} : i ∈ rowSet w ↔ (i 0).val = w := by simp [rowSet]

theorem set_oRow (L : grid0.Coords) : (oRow L).view.set = rowSet (wid L) := by
  refine (View.set_reshape _ _).trans ((View.set_slice_whole main_v0_scv _).trans ?_)
  ext i
  rw [mem_rowSet]; refine Rect.mem_set_unit.trans ?_
  rw [k0_off9_eq]
  constructor
  · intro hi
    obtain ⟨h1, h2⟩ := hi 0
    change 2 * (L 1).val + (L 0).val ≤ (i 0).val at h1; change (i 0).val < 2 * (L 1).val + (L 0).val + 1 at h2; unfold wid; omega
  · intro hi a
    unfold wid at hi
    match a with
    | 0 => exact ⟨show 2 * (L 1).val + (L 0).val ≤ (i 0).val by omega, show (i 0).val < 2 * (L 1).val + (L 0).val + 1 by omega⟩
    | 1 => exact ⟨Nat.zero_le _, show (i 1).val < 0 + 16 from by have := (i 1).isLt; change (i 1).val < 16 at this; omega⟩

/-- Element `x` of the row is column `x` of it. -/
theorem emb_oRow (L : grid0.Coords) (x : S16.Idx) : ((oRow L).view.emb x 0).val = wid L ∧ (oRow L).view.emb x 1 = x 0 := by
  show (((Rect.unit (s := S32x16) (k0_off9 L) S1x16.size (k0_off9_inb L)).emb (Shape.reshapeEquiv squeezes_S1x16_S16.numel_eq x)) 0).val = _
    ∧ ((Rect.unit (s := S32x16) (k0_off9 L) S1x16.size (k0_off9_inb L)).emb (Shape.reshapeEquiv squeezes_S1x16_S16.numel_eq x)) 1 = _
  rw [Shape.reshapeEquiv_cons_one]
  have e := k0_off9_eq L
  constructor
  · show k0_off9 L 0 + 1 * 0 = _
    rw [e]; unfold wid; show 2 * (L 1).val + (L 0).val + 1 * 0 = _; omega
  · apply Fin.ext
    show k0_off9 L 1 + 1 * (x 0).val = _
    rw [e]; show 0 + 1 * (x 0).val = _; omega

/-- A row written whole reads as what was written. -/
theorem lands_row (L : grid0.Coords) (f : S32x16.Idx → Elt F .f32) (w : S16.Idx → Elt F .f32) {i : S32x16.Idx} (hi : i ∈ rowSet (wid L)) :
    (oRow L).view.writes (Elt F) f [⟨Rect.whole S16, w⟩] i = w (pos 16 (i 1).val) := by
  have := View.write_emb_of_mem (Val := Elt F) (v := (oRow L).view.slice (Rect.whole S16)) f w (Finset.mem_univ (pos 16 (i 1).val))
  rw [show ((oRow L).view.slice (Rect.whole S16)).emb (pos 16 (i 1).val) = i from by
    refine (congrArg (oRow L).view.emb (Rect.emb_whole_apply S16 (pos 16 (i 1).val))).trans (funext fun a => ?_)
    match a with
    | 0 => exact Fin.ext ((emb_oRow L _).1.trans (mem_rowSet.mp hi).symm)
    | 1 => exact (emb_oRow L _).2.trans (Fin.ext (pos_of_lt (i 1).isLt))] at this
  exact this

/-- The accumulator stored whole reads as it was. -/
theorem lands_A (f : S16.Idx → F .f32) (w : S16.Idx → F .f32) (x : S16.Idx) :
    (bA).view.writes (Elt F) f [⟨Rect.unit (s := S16) ![0] S16.size inb_S16_S16_0, w⟩] x = w x := by
  have := View.write_emb_of_mem (Val := Elt F) (v := (bA).view.slice (Rect.unit (s := S16) ![0] S16.size inb_S16_S16_0)) f w (Finset.mem_univ x)
  rw [show ((bA).view.slice (Rect.unit (s := S16) ![0] S16.size inb_S16_S16_0)).emb x = x from funext fun a => Fin.ext (by
    match a with
    | 0 => show 0 + 1 * (x 0).val = _; omega)] at this
  exact this

variable [FloatOps F]

/-- Subcore `w`'s lane `x`: its 7168 terms, added in order. -/
def lane (d : Dev nD) (w x : ℕ) : F .f32 :=
  run (fun k => term (m (eLoc d)) (m (wLoc d)) (m (pLoc d) (pos 8388608 (114688 * w + 16 * k + x))) (m (tLoc d) (pos 8388608 (114688 * w + 16 * k + x))))
    (FloatOps.ofBits .f32 0x00000000#32) 7168

/-- The partial sums. -/
def parts (d : Dev nD) : Buf (Elt F) (oLoc d) := fun i : S32x16.Idx => lane m d (i 0).val (i 1).val

/-! ## The subcore's own cells and buffers -/

variable (d : Dev nD) (L : grid0.Coords)

abbrev dcell (s : DmaSems sig S_) : GSem nD τ sig := (V d (cV L) (jV L), .dma s.sem)

omit [FloatOps F] m in
theorem dcell_own (s : DmaSems sig S_) (h : (SemLoc.dma s.sem : SemLoc sig).isScoped .scVector = true) : dcell d L s ∈ ownCells (V d (cV L) (jV L)) :=
  mem_ownCells.mpr ⟨rfl, h⟩

omit [FloatOps F] m in
theorem dcell_ne {s t : DmaSems sig S_} (h : (SemLoc.dma s.sem : SemLoc sig) ≠ .dma t.sem) : dcell d L s ≠ dcell d L t := fun e => h (congrArg Prod.snd e)

omit [FloatOps F] m in
theorem dref_ne {s t : Ref sig .scVector} (h : s ≠ t) : (Proc.scVector (cV L) (jV L)).devRef s ≠ (Proc.scVector (cV L) (jV L)).devRef t :=
  fun e => h (Proc.devRef_injective _ e)

omit [FloatOps F] in
theorem ownSems0_V :
    (ownSems0 (V d (cV L) (jV L)) : sProp 𝕄)
      = iprop(semVal (dcell d L cc0_scratch5) 0
          ∗ semVal (dcell d L cc0_scratch6) 0
          ∗ semVal (dcell d L cc0_scratch7) 0
          ∗ semVal (dcell d L cc0_scratch8) 0
          ∗ semVal (dcell d L cc0_scoped0) 0
          ∗ semVal (dcell d L cc0_scoped1) 0
          ∗ semVal (dcell d L cc0_scoped2) 0
          ∗ bigSep ((((((((ownCells (V d (cV L) (jV L))).erase (dcell d L cc0_scratch5)).erase (dcell d L cc0_scratch6)).erase (dcell d L cc0_scratch7)).erase (dcell d L cc0_scratch8)).erase (dcell d L cc0_scoped0)).erase (dcell d L cc0_scoped1)).erase (dcell d L cc0_scoped2)) fun g => semVal g 0) := by
  unfold SparseCore.Cfg.ownSems0
  rw [SparseCore.bigSep_erase' (dcell_own d L cc0_scratch5 (by decide)),
    SparseCore.bigSep_erase' (Finset.mem_erase.mpr ⟨dcell_ne d L (by decide), dcell_own d L cc0_scratch6 (by decide)⟩),
    SparseCore.bigSep_erase' (Finset.mem_erase.mpr ⟨dcell_ne d L (by decide), Finset.mem_erase.mpr ⟨dcell_ne d L (by decide), dcell_own d L cc0_scratch7 (by decide)⟩⟩),
    SparseCore.bigSep_erase' (Finset.mem_erase.mpr ⟨dcell_ne d L (by decide), Finset.mem_erase.mpr ⟨dcell_ne d L (by decide), Finset.mem_erase.mpr ⟨dcell_ne d L (by decide), dcell_own d L cc0_scratch8 (by decide)⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), dcell_own d L cc0_scoped0 (by decide)⟩⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), dcell_own d L cc0_scoped1 (by decide)⟩⟩⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), dcell_own d L cc0_scoped2 (by decide)⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨dref_ne L (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨dref_ne L (by decide), Finset.mem_erase.mpr ⟨dref_ne L (by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨dref_ne L (by decide), Finset.mem_erase.mpr ⟨dref_ne L (by decide), Finset.mem_erase.mpr ⟨dref_ne L (by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨dref_ne L (by decide), Finset.mem_erase.mpr ⟨dref_ne L (by decide), Finset.mem_erase.mpr ⟨dref_ne L (by decide), Finset.mem_erase.mpr ⟨dref_ne L (by decide), SparseCore.Cfg.mem_ownRefs_of_owner (p := Proc.scVector (cV L) (jV L)) (b := (Proc.scVector (cV L) (jV L)).devRef cc0_scratch4) rfl⟩⟩⟩⟩)]

/-! ## What a task is handed and hands back -/

/-- The share of each argument the task of row `w` reads at. -/
abbrev tok (w : ℕ) : PosShare TreeShare := shareTokN fullShare w

/-- The four arguments at the task's share. -/
abbrev Args (w : ℕ) : sProp 𝕄 :=
  iprop((pLoc d ↦{tok w} m (pLoc d)) ∗ (tLoc d ↦{tok w} m (tLoc d)) ∗ (eLoc d ↦{tok w} m (eLoc d)) ∗ (wLoc d ↦{tok w} m (wLoc d)))

/-- Row `w` of the partial sums. -/
abbrev Row (w : ℕ) (f : Buf (Elt F) (oLoc d)) : sProp 𝕄 := oLoc d ↦[rowSet w]{fullShare} f

/-- Every target's tick is at most 14, so that the tick and the next number are both words of the tables' scratches. -/
def PreOK : Prop := ∀ (d : Dev nD) (j : S8388608.Idx), (tick (m (tLoc d) j)).toNat ≤ 14

/-! ## A buffer's two halves, an argument's read shares -/

omit [FloatOps F] m in
theorem toks4 {ℓ : Loc nD τ sig} {I : Finset (Idx ℓ)} (f : Buf (Elt F) ℓ) (q : PosShare TreeShare) :
    (ℓ ↦[I]{q} f : sProp 𝕄) ⊣⊢ iprop((ℓ ↦[I]{shareDrop q 4} f) ∗ (ℓ ↦[I]{shareTokN q 3} f) ∗ (ℓ ↦[I]{shareTokN q 2} f)
      ∗ (ℓ ↦[I]{shareTokN q 1} f) ∗ (ℓ ↦[I]{shareTokN q 0} f)) := by
  have hs : ∀ k, (ℓ ↦[I]{shareDrop q k} f : sProp 𝕄) ⊣⊢ iprop((ℓ ↦[I]{shareDrop q (k + 1)} f) ∗ ℓ ↦[I]{shareTokN q k} f) :=
    fun k => pointsTo_share (PosShare.mem_left_op_right _)
  constructor
  · iintro H
    ihave H := (show (ℓ ↦[I]{q} f : sProp 𝕄) ⊢ _ from (hs 0).1) $$ H
    icases H with ⟨H, H0⟩
    ihave H := (hs 1).1 $$ H
    icases H with ⟨H, H1⟩
    ihave H := (hs 2).1 $$ H
    icases H with ⟨H, H2⟩
    ihave H := (hs 3).1 $$ H
    icases H with ⟨H, H3⟩
    isplitl [H]; · iexact H
    isplitl [H3]; · iexact H3
    isplitl [H2]; · iexact H2
    isplitl [H1]; · iexact H1
    iexact H0
  · iintro ⟨H, H3, H2, H1, H0⟩
    ihave H := (hs 3).2 $$ [H H3]; · isplitl [H] <;> iassumption
    ihave H := (hs 2).2 $$ [H H2]; · isplitl [H] <;> iassumption
    ihave H := (hs 1).2 $$ [H H1]; · isplitl [H] <;> iassumption
    ihave H := (hs 0).2 $$ [H H0]; · isplitl [H] <;> iassumption
    iexact H

omit [FloatOps F] m in
theorem halves_P (f : S2x16384.Idx → Elt F .f32) :
    ((V d (cV L) (jV L)).loc cc0_scratch0 ↦{fullShare} f : sProp 𝕄)
      ⊢ iprop(((P0).view.loc (V d (cV L) (jV L)) ↦[(P0).view.set]{fullShare} f) ∗ ((P1).view.loc (V d (cV L) (jV L)) ↦[(P1).view.set]{fullShare} f)) := by
  rw [set_P0, set_P1]
  refine (Entails.of_eq ?_).trans (pointsTo_union half_disjoint).1
  rw [half_union]
omit [FloatOps F] m in
theorem halves_T (f : S2x16384.Idx → Elt F .f32) :
    ((V d (cV L) (jV L)).loc cc0_scratch1 ↦{fullShare} f : sProp 𝕄)
      ⊢ iprop(((T0).view.loc (V d (cV L) (jV L)) ↦[(T0).view.set]{fullShare} f) ∗ ((T1).view.loc (V d (cV L) (jV L)) ↦[(T1).view.set]{fullShare} f)) := by
  rw [set_T0, set_T1]
  refine (Entails.of_eq ?_).trans (pointsTo_union half_disjoint).1
  rw [half_union]
omit [FloatOps F] m in
theorem whole_P (f g : S2x16384.Idx → Elt F .f32) :
    iprop(((P0).view.loc (V d (cV L) (jV L)) ↦[(P0).view.set]{fullShare} f) ∗ ((P1).view.loc (V d (cV L) (jV L)) ↦[(P1).view.set]{fullShare} g))
      ⊢ (iprop(∃ h, (V d (cV L) (jV L)).loc cc0_scratch0 ↦{fullShare} h) : sProp 𝕄) := by
  rw [set_P0, set_P1]
  refine (pointsTo_join half_disjoint).trans ?_
  rw [half_union]
  iintro H
  iexists _; iexact H
omit [FloatOps F] m in
theorem whole_T (f g : S2x16384.Idx → Elt F .f32) :
    iprop(((T0).view.loc (V d (cV L) (jV L)) ↦[(T0).view.set]{fullShare} f) ∗ ((T1).view.loc (V d (cV L) (jV L)) ↦[(T1).view.set]{fullShare} g))
      ⊢ (iprop(∃ h, (V d (cV L) (jV L)).loc cc0_scratch1 ↦{fullShare} h) : sProp 𝕄) := by
  rw [set_T0, set_T1]
  refine (pointsTo_join half_disjoint).trans ?_
  rw [half_union]
  iintro H
  iexists _; iexact H

omit [FloatOps F] m in
theorem pts_hP (q : PosShare TreeShare) (f : S8388608.Idx → Elt F .f32) :
    (pLoc d ↦{q} f : sProp 𝕄) = (hP).view.loc (V d (cV L) (jV L)) ↦{q} f := rfl
omit [FloatOps F] m in
theorem pts_hT (q : PosShare TreeShare) (f : S8388608.Idx → Elt F .f32) :
    (tLoc d ↦{q} f : sProp 𝕄) = (hT).view.loc (V d (cV L) (jV L)) ↦{q} f := rfl

omit [FloatOps F] m in
theorem pts_oRow (f : S32x16.Idx → Elt F .f32) :
    ((oRow L).view.loc (V d (cV L) (jV L)) ↦[(oRow L).view.set]{fullShare} f : sProp 𝕄) = oLoc d ↦[rowSet (wid L)]{fullShare} f := by
  rw [set_oRow]

omit [FloatOps F] in
theorem pts_bW (f : S16.Idx → Elt F .f32) :
    ((((bW).access (.whole S16)).loc (V d (cV L) (jV L)) ↦[(Finset.univ : Finset S16.Idx)]{fullShare} f) : sProp 𝕄) = (bW).view.loc (V d (cV L) (jV L)) ↦{fullShare} f := rfl

/-! ## The accumulator after some chunks -/

/-- After `c` chunks. -/
def upto (c : ℕ) : FVec F S16 .f32 := fun x =>
  run (fun k => term (m (eLoc d)) (m (wLoc d)) (m (pLoc d) (pos 8388608 (114688 * wid L + 16 * k + (x 0).val))) (m (tLoc d) (pos 8388608 (114688 * wid L + 16 * k + (x 0).val))))
    (FloatOps.ofBits .f32 0x00000000#32) (1024 * c)

theorem upto_succ (c : ℕ) :
    (fun x : S16.Idx => run (fun k => term (m (eLoc d)) (m (wLoc d)) (stretch L c (m (pLoc d)) (16 * k + (x 0).val)) (stretch L c (m (tLoc d)) (16 * k + (x 0).val)))
      (upto m d L c x) 1024) = upto m d L (c + 1) := by
  funext x
  show _ = run _ _ (1024 * c + 1024)
  rw [run_add]
  refine run_congr fun k _ => ?_
  unfold stretch
  rw [show 114688 * wid L + 16384 * c + (16 * k + (x 0).val) = 114688 * wid L + 16 * (1024 * c + k) + (x 0).val by omega]

set_option maxHeartbeats 1000000 in
/-- The loop over a chunk that lies in half 0: the accumulator takes the chunk's terms. -/
theorem wp_loop0 (hpre : PreOK m) (c : ℕ) {off : Fin k0_t1_loop.trips → Fin 2 → ℕ} {inb : ∀ t a, off t a + S1x16.size a ≤ S2x16384.size a}
    {cA cB : IVec S16 32 → Prop} {dA : ∀ v, Decidable (cA v)} {dB : ∀ v, Decidable (cB v)}
    {iA : ∀ v, cA v → ∀ a x, ((![v] : Fin 1 → IVec S16 32) a x).toNat < S16.size a}
    {iB : ∀ v, cB v → ∀ a x, ((![v] : Fin 1 → IVec S16 32) a x).toNat < S16.size a}
    (hA : ∀ v, (∀ a x, ((![v] : Fin 1 → IVec S16 32) a x).toNat < S16.size a) → cA v)
    (hB : ∀ v, (∀ a x, ((![v] : Fin 1 → IVec S16 32) a x).toNat < S16.size a) → cB v)
    (ho : ∀ t, off t = ![(0 : Fin 2).val, 16 * t.val])
    {fp ft : S2x16384.Idx → F .f32} (hp : Holds 0 fp (stretch L c (m (pLoc d)))) (ht : Holds 0 ft (stretch L c (m (tLoc d))))
    {fe fw : S16.Idx → F .f32} (he : HoldsE fe (m (eLoc d))) (hw : HoldsW fw (m (wLoc d)))
    {acc : FVec F S16 .f32} (hacc : acc = upto m d L c)
    {α : Type} {k : FVec F S16 .f32 → Prog (TpuEff nD τ sig (Elt F) Λ₀ (.scVector (cV L) (jV L))) α} {Q : α → sProp 𝕄} :
    iprop(((P0).view.loc (V d (cV L) (jV L)) ↦[(P0).view.set]{fullShare} fp) ∗ ((T0).view.loc (V d (cV L) (jV L)) ↦[(T0).view.set]{fullShare} ft)
        ∗ ((bE).view.loc (V d (cV L) (jV L)) ↦{fullShare} fe) ∗ ((bW).view.loc (V d (cV L) (jV L)) ↦{fullShare} fw))
      ⊢ iprop(((((P0).view.loc (V d (cV L) (jV L)) ↦[(P0).view.set]{fullShare} fp) ∗ ((T0).view.loc (V d (cV L) (jV L)) ↦[(T0).view.set]{fullShare} ft)
          ∗ ((bE).view.loc (V d (cV L) (jV L)) ↦{fullShare} fe) ∗ ((bW).view.loc (V d (cV L) (jV L)) ↦{fullShare} fw))
          -∗ wp frame (wpE (defs₀ (F := F)) 𝒱₀ (V d (cV L) (jV L)) none) Set.univ (k (upto m d L (c + 1))) Q)
        -∗ wp frame (wpE (defs₀ (F := F)) 𝒱₀ (V d (cV L) (jV L)) none) Set.univ
            (Scf.Loop.for k0_t1_loop k0_t1_ok acc (trip L off inb cA cB dA dB iA iB k0_pay10 k0_pay11 k0_pay12 k0_pay13) >>= k) Q) := by
  rw [set_P0, set_T0]
  iintro H Hk
  rw [wp_bind]
  ihave Hl := (wp_chunk d L (iA := iA) (iB := iB) (dA := dA) (dB := dB) hA hB ho (S := half 0) (cell_mem 0) hp ht he hw (fun k _ => hpre d _) acc) $$ [H]
  · iexact H
  iapply (wp_wand frame (wpE (defs₀ (F := F)) 𝒱₀ (V d (cV L) (jV L)) none)) $$ Hl
  iintro %r ⟨%hr, H⟩
  rw [hr, hacc, upto_succ]
  iapply Hk
  iexact H

set_option maxHeartbeats 1000000 in
/-- The loop over a chunk that lies in half 1: the accumulator takes the chunk's terms. -/
theorem wp_loop1 (hpre : PreOK m) (c : ℕ) {off : Fin k0_t1_loop.trips → Fin 2 → ℕ} {inb : ∀ t a, off t a + S1x16.size a ≤ S2x16384.size a}
    {cA cB : IVec S16 32 → Prop} {dA : ∀ v, Decidable (cA v)} {dB : ∀ v, Decidable (cB v)}
    {iA : ∀ v, cA v → ∀ a x, ((![v] : Fin 1 → IVec S16 32) a x).toNat < S16.size a}
    {iB : ∀ v, cB v → ∀ a x, ((![v] : Fin 1 → IVec S16 32) a x).toNat < S16.size a}
    (hA : ∀ v, (∀ a x, ((![v] : Fin 1 → IVec S16 32) a x).toNat < S16.size a) → cA v)
    (hB : ∀ v, (∀ a x, ((![v] : Fin 1 → IVec S16 32) a x).toNat < S16.size a) → cB v)
    (ho : ∀ t, off t = ![(1 : Fin 2).val, 16 * t.val])
    {fp ft : S2x16384.Idx → F .f32} (hp : Holds 1 fp (stretch L c (m (pLoc d)))) (ht : Holds 1 ft (stretch L c (m (tLoc d))))
    {fe fw : S16.Idx → F .f32} (he : HoldsE fe (m (eLoc d))) (hw : HoldsW fw (m (wLoc d)))
    {acc : FVec F S16 .f32} (hacc : acc = upto m d L c)
    {α : Type} {k : FVec F S16 .f32 → Prog (TpuEff nD τ sig (Elt F) Λ₀ (.scVector (cV L) (jV L))) α} {Q : α → sProp 𝕄} :
    iprop(((P1).view.loc (V d (cV L) (jV L)) ↦[(P1).view.set]{fullShare} fp) ∗ ((T1).view.loc (V d (cV L) (jV L)) ↦[(T1).view.set]{fullShare} ft)
        ∗ ((bE).view.loc (V d (cV L) (jV L)) ↦{fullShare} fe) ∗ ((bW).view.loc (V d (cV L) (jV L)) ↦{fullShare} fw))
      ⊢ iprop(((((P1).view.loc (V d (cV L) (jV L)) ↦[(P1).view.set]{fullShare} fp) ∗ ((T1).view.loc (V d (cV L) (jV L)) ↦[(T1).view.set]{fullShare} ft)
          ∗ ((bE).view.loc (V d (cV L) (jV L)) ↦{fullShare} fe) ∗ ((bW).view.loc (V d (cV L) (jV L)) ↦{fullShare} fw))
          -∗ wp frame (wpE (defs₀ (F := F)) 𝒱₀ (V d (cV L) (jV L)) none) Set.univ (k (upto m d L (c + 1))) Q)
        -∗ wp frame (wpE (defs₀ (F := F)) 𝒱₀ (V d (cV L) (jV L)) none) Set.univ
            (Scf.Loop.for k0_t1_loop k0_t1_ok acc (trip L off inb cA cB dA dB iA iB k0_pay10 k0_pay11 k0_pay12 k0_pay13) >>= k) Q) := by
  rw [set_P1, set_T1]
  iintro H Hk
  rw [wp_bind]
  ihave Hl := (wp_chunk d L (iA := iA) (iB := iB) (dA := dA) (dB := dB) hA hB ho (S := half 1) (cell_mem 1) hp ht he hw (fun k _ => hpre d _) acc) $$ [H]
  · iexact H
  iapply (wp_wand frame (wpE (defs₀ (F := F)) 𝒱₀ (V d (cV L) (jV L)) none)) $$ Hl
  iintro %r ⟨%hr, H⟩
  rw [hr, hacc, upto_succ]
  iapply Hk
  iexact H

omit [FloatOps F] m in
/-- A wait at no launch adds nothing to what a task is charged for. -/
theorem waited_insert {s : SemLoc sig} {W W' : Waits sig (HIx 1)} (h : ∀ p ∈ W', p ∈ W ∨ p.2 = none) :
    ∀ p ∈ insert (s, (default : HIx 1)) W', p ∈ W ∨ p.2 = none := fun p hp => by
  rcases Finset.mem_insert.mp hp with e | hp
  · exact .inr (by rw [e]; rfl)
  · exact h p hp

set_option maxHeartbeats 4000000 in
set_option maxRecDepth 16384 in
/-- The task on vector subcore `L`. -/
theorem tile_body (hF : (K (F := F)).Facts) (hpre : PreOK m) (O : CellTallies nD τ sig (HIx 1)) (W : Waits sig (HIx 1)) (hO0 : ∀ g, O g none = 0) :
    iprop(levAts (K (F := F)).L (K (F := F)).lev ∗ emp
        ∗ (Args m d (wid L) ∗ Row d (wid L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_loss L hP (Memref.isWhole_whole _) hT (Memref.isWhole_whole _) hE (Memref.isWhole_whole _) hW (Memref.isWhole_whole _) hO (Memref.isWhole_whole _)
            bP (Memref.isWhole_whole _) bT (Memref.isWhole_whole _) bE (Memref.isWhole_whole _) bW (Memref.isWhole_whole _) bA (Memref.isWhole_whole _)
            cc0_scratch5 cc0_scratch6 cc0_scratch7 cc0_scratch8 cc0_scoped0 cc0_scoped1 cc0_scoped2)
          fun _ => iprop((Args m d (wid L) ∗ Row d (wid L) (parts m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_loss_eq_skeleton]; unfold cc0_sc_loss_skel
  rw [(K (F := F)).scopedBufs_V hF d (cV L) (jV L), SparseCore.Cfg.scopedSems0_V (Val := Elt F) d (cV L) (jV L), ownSems0_V, ownBufs_V]
  iintro ⟨#Hlv, -, ⟨⟨Hp, Ht, He, Hw⟩, Ho⟩, ⟨⟨%fp, HbP⟩, ⟨%ft, HbT⟩, ⟨%fe, HbE⟩, ⟨%fw, HbW⟩, ⟨%fa, HbA⟩, Hbufs⟩,
    ⟨Hs5, Hs6, Hs7, Hs8, Hr0, Hr1, Hr2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO0) $$ Hlv
  ihave Hp := (Entails.of_eq (pts_hP d L _ _)) $$ Hp
  ihave Ht := (Entails.of_eq (pts_hT d L _ _)) $$ Ht
  ihave Hp := (toks4 _ _).1 $$ Hp
  icases Hp with ⟨HpD, Hp3, Hp2, Hp1, Hp0⟩
  ihave Ht := (toks4 _ _).1 $$ Ht
  icases Ht with ⟨HtD, Ht3, Ht2, Ht1, Ht0⟩
  ihave HbP := (halves_P d L _) $$ HbP
  icases HbP with ⟨HP0, HP1⟩
  ihave HbT := (halves_T d L _) $$ HbT
  icases HbT with ⟨HT0, HT1⟩
  ihave He' := (Entails.of_eq (show (eLoc d ↦{tok (wid L)} m (eLoc d) : sProp 𝕄) = (hE).view.loc (V d (cV L) (jV L)) ↦{tok (wid L)} m (eLoc d) from rfl)) $$ He
  ihave Hw' := (Entails.of_eq (show (wLoc d ↦{tok (wid L)} m (wLoc d) : sProp 𝕄) = (hW).view.loc (V d (cV L) (jV L)) ↦{tok (wid L)} m (wLoc d) from rfl)) $$ Hw
  ihave HbE' := (Entails.of_eq (show ((V d (cV L) (jV L)).loc cc0_scratch2 ↦{fullShare} fe : sProp 𝕄) = (bE).view.loc (V d (cV L) (jV L)) ↦{fullShare} fe from rfl)) $$ HbE
  ihave HbW' := (Entails.of_eq (show ((V d (cV L) (jV L)).loc cc0_scratch3 ↦{fullShare} fw : sProp 𝕄) = (bW).view.loc (V d (cV L) (jV L)) ↦{fullShare} fw from rfl)) $$ HbW
  ihave HbA := (Entails.of_eq (show ((V d (cV L) (jV L)).loc cc0_scratch4 ↦{fullShare} fa : sProp 𝕄) = (bA).view.loc (V d (cV L) (jV L)) ↦{fullShare} fa from rfl)) $$ HbA
  ihave Ho := (Entails.of_eq (pts_oRow d L _).symm) $$ Ho
  sl_exec
  iapply (SparseCore.wp_vectorLoadIdx 𝒱₀ (V d (cV L) (jV L)) none Set.univ (base := bW) (S := Finset.univ) (q := fullShare) (Finset.subset_univ _)) $$ [HbW']; · iexact HbW'
  iintro HbW'
  rw [Memref.read_access_whole]
  ihave HbW := (Entails.of_eq (pts_bW d L _)) $$ HbW'
  sl_exec
  iapply (wp_loop0 m d L hpre 0 (off := k0_off2) (inb := k0_off2_inb) (cA := k0_chk2) (cB := k0_chk3) (dA := k0_chk2.dec) (dB := k0_chk3.dec)
    (iA := k0_idx2_inb) (iB := k0_idx3_inb) (fun _ h => h) (fun _ h => h) k0_off2_eq
    ((lands_P0 _ (tile_body.sl.dma2 m d L)).congr fun n hn => fetched 0 rfl L (k0_off1_inb L 0) (m (pLoc d)) hn)
    ((lands_T0 _ (tile_body.sl.dma2_1 m d L)).congr fun n hn => fetched 0 rfl L (k0_off1_inb L 0) (m (tLoc d)) hn)
    (lands_E _ _) (lands_W _ _ _ _) rfl) $$ [HP0 HT0 HbE' HbW]
  · isplitl [HP0]; · iexact HP0
    isplitl [HT0]; · iexact HT0
    isplitl [HbE']; · iexact HbE'
    iexact HbW
  iintro ⟨HP0, HT0, HbE', HbW⟩
  sl_exec
  iapply (wp_loop1 m d L hpre 1 (off := k0_off3) (inb := k0_off3_inb) (cA := k0_chk4) (cB := k0_chk5) (dA := k0_chk4.dec) (dB := k0_chk5.dec)
    (iA := k0_idx4_inb) (iB := k0_idx5_inb) (fun _ h => h) (fun _ h => h) k0_off3_eq
    ((lands_P1 _ (tile_body.sl.dma2_2 m d L)).congr fun n hn => fetched 1 rfl L (k0_off1_inb L 1) (m (pLoc d)) hn)
    ((lands_T1 _ (tile_body.sl.dma2_3 m d L)).congr fun n hn => fetched 1 rfl L (k0_off1_inb L 1) (m (tLoc d)) hn)
    (lands_E _ _) (lands_W _ _ _ _) rfl) $$ [HP1 HT1 HbE' HbW]
  · isplitl [HP1]; · iexact HP1
    isplitl [HT1]; · iexact HT1
    isplitl [HbE']; · iexact HbE'
    iexact HbW
  iintro ⟨HP1, HT1, HbE', HbW⟩
  sl_exec
  iapply (wp_loop0 m d L hpre 2 (off := k0_off4) (inb := k0_off4_inb) (cA := k0_chk6) (cB := k0_chk7) (dA := k0_chk6.dec) (dB := k0_chk7.dec)
    (iA := k0_idx6_inb) (iB := k0_idx7_inb) (fun _ h => h) (fun _ h => h) k0_off4_eq
    ((lands_P0 _ (tile_body.sl.dma0_2 m d L)).congr fun n hn => fetched 2 rfl L (k0_off1_inb L 2) (m (pLoc d)) hn)
    ((lands_T0 _ (tile_body.sl.dma0_3 m d L)).congr fun n hn => fetched 2 rfl L (k0_off1_inb L 2) (m (tLoc d)) hn)
    (lands_E _ _) (lands_W _ _ _ _) rfl) $$ [HP0 HT0 HbE' HbW]
  · isplitl [HP0]; · iexact HP0
    isplitl [HT0]; · iexact HT0
    isplitl [HbE']; · iexact HbE'
    iexact HbW
  iintro ⟨HP0, HT0, HbE', HbW⟩
  sl_exec
  iapply (wp_loop1 m d L hpre 3 (off := k0_off5) (inb := k0_off5_inb) (cA := k0_chk8) (cB := k0_chk9) (dA := k0_chk8.dec) (dB := k0_chk9.dec)
    (iA := k0_idx8_inb) (iB := k0_idx9_inb) (fun _ h => h) (fun _ h => h) k0_off5_eq
    ((lands_P1 _ (tile_body.sl.dma0_4 m d L)).congr fun n hn => fetched 3 rfl L (k0_off1_inb L 3) (m (pLoc d)) hn)
    ((lands_T1 _ (tile_body.sl.dma0_5 m d L)).congr fun n hn => fetched 3 rfl L (k0_off1_inb L 3) (m (tLoc d)) hn)
    (lands_E _ _) (lands_W _ _ _ _) rfl) $$ [HP1 HT1 HbE' HbW]
  · isplitl [HP1]; · iexact HP1
    isplitl [HT1]; · iexact HT1
    isplitl [HbE']; · iexact HbE'
    iexact HbW
  iintro ⟨HP1, HT1, HbE', HbW⟩
  sl_exec
  iapply (wp_loop0 m d L hpre 4 (off := k0_off6) (inb := k0_off6_inb) (cA := k0_chk10) (cB := k0_chk11) (dA := k0_chk10.dec) (dB := k0_chk11.dec)
    (iA := k0_idx10_inb) (iB := k0_idx11_inb) (fun _ h => h) (fun _ h => h) k0_off6_eq
    ((lands_P0 _ (tile_body.sl.dma0_6 m d L)).congr fun n hn => fetched 4 rfl L (k0_off1_inb L 4) (m (pLoc d)) hn)
    ((lands_T0 _ (tile_body.sl.dma0_7 m d L)).congr fun n hn => fetched 4 rfl L (k0_off1_inb L 4) (m (tLoc d)) hn)
    (lands_E _ _) (lands_W _ _ _ _) rfl) $$ [HP0 HT0 HbE' HbW]
  · isplitl [HP0]; · iexact HP0
    isplitl [HT0]; · iexact HT0
    isplitl [HbE']; · iexact HbE'
    iexact HbW
  iintro ⟨HP0, HT0, HbE', HbW⟩
  sl_exec
  iapply (wp_loop1 m d L hpre 5 (off := k0_off7) (inb := k0_off7_inb) (cA := k0_chk12) (cB := k0_chk13) (dA := k0_chk12.dec) (dB := k0_chk13.dec)
    (iA := k0_idx12_inb) (iB := k0_idx13_inb) (fun _ h => h) (fun _ h => h) k0_off7_eq
    ((lands_P1 _ (tile_body.sl.dma0_8 m d L)).congr fun n hn => fetched 5 rfl L (k0_off1_inb L 5) (m (pLoc d)) hn)
    ((lands_T1 _ (tile_body.sl.dma0_9 m d L)).congr fun n hn => fetched 5 rfl L (k0_off1_inb L 5) (m (tLoc d)) hn)
    (lands_E _ _) (lands_W _ _ _ _) rfl) $$ [HP1 HT1 HbE' HbW]
  · isplitl [HP1]; · iexact HP1
    isplitl [HT1]; · iexact HT1
    isplitl [HbE']; · iexact HbE'
    iexact HbW
  iintro ⟨HP1, HT1, HbE', HbW⟩
  sl_exec
  iapply (wp_loop0 m d L hpre 6 (off := k0_off8) (inb := k0_off8_inb) (cA := k0_chk14) (cB := k0_chk15) (dA := k0_chk14.dec) (dB := k0_chk15.dec)
    (iA := k0_idx14_inb) (iB := k0_idx15_inb) (fun _ h => h) (fun _ h => h) k0_off8_eq
    ((lands_P0 _ (tile_body.sl.dma0_10 m d L)).congr fun n hn => fetched 6 rfl L (k0_off1_inb L 6) (m (pLoc d)) hn)
    ((lands_T0 _ (tile_body.sl.dma0_11 m d L)).congr fun n hn => fetched 6 rfl L (k0_off1_inb L 6) (m (tLoc d)) hn)
    (lands_E _ _) (lands_W _ _ _ _) rfl) $$ [HP0 HT0 HbE' HbW]
  · isplitl [HP0]; · iexact HP0
    isplitl [HT0]; · iexact HT0
    isplitl [HbE']; · iexact HbE'
    iexact HbW
  iintro ⟨HP0, HT0, HbE', HbW⟩
  sl_exec
  have hrow : ∀ i ∈ rowSet (wid L), (oRow L).view.writes (Elt F) (m (oLoc d)) [⟨Rect.whole S16, tile_body.sl.dma2_4 m d L fa⟩] i = parts m d i := by
    intro i hi
    refine (lands_row L _ _ hi).trans ?_
    refine (lands_A fa (upto m d L 7) (pos 16 (i 1).val)).trans ?_
    show run _ _ 7168 = lane m d (i 0).val (i 1).val
    rw [mem_rowSet.mp hi]
    show run (fun k => term (m (eLoc d)) (m (wLoc d)) (m (pLoc d) (pos 8388608 (114688 * wid L + 16 * k + ((pos 16 (i 1).val : S16.Idx) 0).val))) _) _ 7168 = _
    rw [show ((pos 16 (i 1).val : S16.Idx) 0).val = (i 1).val from pos_of_lt (i 1).isLt]
    rfl
  ihave Ho := (Entails.of_eq ((pts_oRow d L _).trans (pointsTo_congr hrow))) $$ Ho
  ihave Hp := (toks4 (m (pLoc d)) (tok (wid L))).2 $$ [HpD Hp3 Hp2 Hp1 Hp0]
  · isplitl [HpD]; · iexact HpD
    isplitl [Hp3]; · iexact Hp3
    isplitl [Hp2]; · iexact Hp2
    isplitl [Hp1]; · iexact Hp1
    iexact Hp0
  ihave Ht := (toks4 (m (tLoc d)) (tok (wid L))).2 $$ [HtD Ht3 Ht2 Ht1 Ht0]
  · isplitl [HtD]; · iexact HtD
    isplitl [Ht3]; · iexact Ht3
    isplitl [Ht2]; · iexact Ht2
    isplitl [Ht1]; · iexact Ht1
    iexact Ht0
  ihave HbP := (whole_P d L _ _) $$ [HP0 HP1]; · isplitl [HP0] <;> iassumption
  ihave HbT := (whole_T d L _ _) $$ [HT0 HT1]; · isplitl [HT0] <;> iassumption
  sl_step
  isplitl [Hp Ht He' Hw' Ho]
  · isplitr [Ho]
    · isplitl [Hp]; · iexact Hp
      isplitl [Ht]; · iexact Ht
      isplitl [He']; · iexact He'
      iexact Hw'
    · iexact Ho
  isplitl [HbP HbT HbE' HbW HbA Hbufs]
  · isplitl [HbP]; · iexact HbP
    isplitl [HbT]; · iexact HbT
    isplitl [HbE']; · iexists _; iexact HbE'
    isplitl [HbW]; · iexists _; iexact HbW
    isplitl [HbA]; · iexists _; iexact HbA
    iexact Hbufs
  isplitl [Hs5 Hs6 Hs7 Hs8 Hr0 Hr1 Hr2 Hsems]
  · isplitl [Hs5]; · iexact Hs5
    isplitl [Hs6]; · iexact Hs6
    isplitl [Hs7]; · iexact Hs7
    isplitl [Hs8]; · iexact Hs8
    isplitl [Hr0]; · iexact Hr0
    isplitl [Hr1]; · iexact Hr1
    isplitl [Hr2]; · iexact Hr2
    iexact Hsems
  iexists _
  isplitr [HO]
  swap
  · iexact HO
  ipureintro
  iterate 17 refine waited_insert ?_
  exact fun _ hp => .inl hp

end Cert.Proof.Loss

end
-- ==== Proof.Run.lean ====
/-
  The launch: what each task is handed and hands back, @main on the TensorCore — the SparseCore call, the two reshapes,
  the TensorCore region, the six operations after it — and the run of the whole program.
-/
module

public import proofs.«01_k».proof.Proof.Region
public import proofs.«01_k».proof.Proof.Tile
public import Idealize.ShloMosaic.Lib.Pipeline.Regions
public import Idealize.ShloMosaic.Lib.Pipeline.RegionsLoop
public import Idealize.ShloMosaic.Lib.Pipeline.FrameBody
public import Idealize.ShloMosaic.Lib.Pipeline.Value

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

abbrev EH : Emb UH (MT nD τ sig (HIx 1) (Elt F) ℕ UU ℕ) := embL

/-! ## What the handshakes carry -/

/-- A task's number, by its core and its subcore. -/
abbrev num (c i : ℕ) : ℕ := 2 * i + c

/-- One task's arguments and its row, the row at `f`. -/
abbrev Task (d : Dev nD) (w : ℕ) (f : Buf (Elt F) (oLoc d)) : sProp 𝕄 := iprop(Args m d w ∗ Row d w f)

/-- A core is handed its sixteen tasks' shares and rows and hands them back with the rows summed. -/
def P : (K (F := F)).Pay (nD := nD) (Val := Elt F) (Name := ℕ) (U := UU) where
  st := fun q d c => match q with | 0 => bigSep Finset.univ fun i : Fin 16 => Task m d (num c.val i.val) (m (oLoc d))
  dn := fun q d c => match q with | 0 => bigSep Finset.univ fun i : Fin 16 => Task m d (num c.val i.val) (parts m d)
  go := fun q d c i => match q with | 0 => Task m d (num c.val i.val) (m (oLoc d))
  td := fun q d c i => match q with | 0 => Task m d (num c.val i.val) (parts m d)
  x := fun _ _ => iprop(emp)

instance P_storable : (P (F := F) m).IsStorable where
  st q d c := match q with
    | 0 => (inferInstance : BI.Storable (upEmb : UEmb _ 𝕄) (bigSep Finset.univ fun i : Fin 16 => Task m d (num c.val i.val) (m (oLoc d))))
  dn q d c := match q with
    | 0 => (inferInstance : BI.Storable (upEmb : UEmb _ 𝕄) (bigSep Finset.univ fun i : Fin 16 => Task m d (num c.val i.val) (parts m d)))
  go q d c i := match q with
    | 0 => (inferInstance : BI.Storable (upEmb : UEmb _ 𝕄) (Task m d (num c.val i.val) (m (oLoc d))))
  td q d c i := match q with
    | 0 => (inferInstance : BI.Storable (upEmb : UEmb _ 𝕄) (Task m d (num c.val i.val) (parts m d)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_loss (coordsV c s)
          (Memref.whole main_arg0_scv) (Memref.isWhole_whole _) (Memref.whole main_arg1_scv) (Memref.isWhole_whole _)
          (Memref.whole main_arg2_scv) (Memref.isWhole_whole _) (Memref.whole main_arg3_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scoped0 cc0_scoped1 cc0_scoped2) ⟨⟩ c s := rfl

/-- The task's post as the obligation asks it: its waits are its own or none. -/
theorem weaken {thr : Thread nD τ} {X B C : sProp 𝕄} {O : CellTallies nD τ sig (HIx 1)} {W : Waits sig (HIx 1)} {q : Fin 1} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HX, HB, HC, %W', %hW', HO⟩
  isplitl [HX]; · iexact HX
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => weaken)

theorem vecSplit : (K (F := F)).VecSplit' (P m) 0 := by
  intro d c
  show (bigSep Finset.univ fun i : Fin 16 => Task m d (num c.val i.val) (m (oLoc d))) ⊢ |={Set.univ}=> iprop(
      (bigSep Finset.univ fun i : Fin 16 => Task m d (num c.val i.val) (m (oLoc d)))
      ∗ ((bigSep Finset.univ fun i : Fin 16 => Task m d (num c.val i.val) (parts m d))
          -∗ bigSep Finset.univ fun i : Fin 16 => Task m d (num c.val i.val) (parts m d)))
  iintro H; imodintro
  isplitl [H]; · iexact H
  iintro H; iexact H

/-! ## The thirty-two tasks' shares and rows are the arguments' tokens and the whole of the partial sums -/

omit [FloatOps F] in
theorem tasks_number (Φ : ℕ → sProp 𝕄) :
    (bigSep Finset.univ fun c : Fin 2 => bigSep Finset.univ fun i : Fin 16 => Φ (num c.val i.val)) = bigSep Finset.univ fun w : Fin 32 => Φ w.val := by
  rw [bigSep_univ_comm, ← bigSep_univ_prod (fun x : Fin 16 × Fin 2 => Φ (num x.2.val x.1.val)), bigSep_univ_equiv finProdFinEquiv (fun w : Fin (16 * 2) => Φ w.val)]
  exact bigSep_congr fun x _ => congrArg Φ (Nat.add_comm _ _)

omit [FloatOps F] in
theorem rows_disjoint : ∀ i ∈ (Finset.univ : Finset (Fin 32)), ∀ j ∈ (Finset.univ : Finset (Fin 32)), i ≠ j → Disjoint (rowSet i.val) (rowSet j.val) :=
  fun _ _ _ _ h => Finset.disjoint_left.mpr fun _ hi hj => h (Fin.ext ((mem_rowSet.mp hi).symm.trans (mem_rowSet.mp hj)))
omit [FloatOps F] in
theorem rows_cover : (Finset.univ : Finset (Fin 32)).biUnion (fun w => rowSet w.val) = Finset.univ :=
  Finset.eq_univ_of_forall fun x => Finset.mem_biUnion.mpr ⟨⟨(x 0).val, (x 0).isLt⟩, Finset.mem_univ _, mem_rowSet.mpr rfl⟩
omit [FloatOps F] in
theorem rows_whole (d : Dev nD) (f : Buf (Elt F) (oLoc d)) :
    (bigSep Finset.univ fun w : Fin 32 => (Row d w.val f : sProp 𝕄)) = oLoc d ↦{fullShare} f := by
  rw [← pointsTo_biUnion Finset.univ (ℓ := oLoc d) (fun w : Fin 32 => rowSet w.val) rows_disjoint, rows_cover]

/-- The read tokens of the four arguments. -/
abbrev Toks (d : Dev nD) : sProp 𝕄 :=
  iprop((bigSep Finset.univ fun w : Fin 32 => pLoc d ↦{tok w.val} m (pLoc d)) ∗ (bigSep Finset.univ fun w : Fin 32 => tLoc d ↦{tok w.val} m (tLoc d))
    ∗ (bigSep Finset.univ fun w : Fin 32 => eLoc d ↦{tok w.val} m (eLoc d)) ∗ (bigSep Finset.univ fun w : Fin 32 => wLoc d ↦{tok w.val} m (wLoc d)))

theorem tasks_eq (d : Dev nD) (f : Buf (Elt F) (oLoc d)) :
    (bigSep Finset.univ fun c : Fin 2 => bigSep Finset.univ fun i : Fin 16 => Task m d (num c.val i.val) f) = iprop(Toks m d ∗ oLoc d ↦{fullShare} f) := by
  rw [tasks_number (fun w => Task m d w f), bigSep_sep', bigSep_sep', bigSep_sep', bigSep_sep', rows_whole]

/-! ## The launch element -/

omit [FloatOps F] in
theorem only_one (Φ : Fin 1 → Dev nD → sProp 𝕄) :
    (bigSep Finset.univ fun d : Dev nD => bigSep Finset.univ fun p : Fin 1 => Φ p d) ⊢ bigSep Finset.univ fun d : Dev nD => Φ 0 d :=
  Entails.of_eq (bigSep_congr fun _ _ => bigSep_univ_of_subsingleton (0 : Fin 1))

omit [FloatOps F] in
theorem emps {I : Type} (s : Finset I) : (bigSep s fun _ => iprop(emp)) = (iprop(emp) : sProp 𝕄) := bigSep_emp_const s

def u₀ : UU := (initOf (K (F := F)).hsCells (K (F := F)).hsToks, (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => Fund (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  ihave HP := (show BI.own (((Emb.inl : Emb UP (UP × Counters)).trans embR : Emb UP 𝕄) (initOf (Pipeline.cells (Pipeline.pin (pcfgs (F := F)) adm) cellOf_inj) (Pipeline.launchToks (Pipeline.pin (pcfgs (F := F)) adm) cellOf_inj))) ⊢ BI.own (EP (initOf (Pipeline.cells (Pipeline.pin (pcfgs (F := F)) adm) cellOf_inj) (Pipeline.launchToks (Pipeline.pin (pcfgs (F := F)) adm) cellOf_inj))) from .rfl) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (only_one _); iexact Hg
    · iapply (only_one _); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore: the buffers' contents through it -/

/-- At launch. -/
def V0 (d : Dev nD) : Valuation τ sig (Elt F) := fun b => m (d, b)
/-- After the SparseCore call. -/
def V1 (d : Dev nD) : Valuation τ sig (Elt F) := Function.update (V0 m d) (Proc.devRef .tc main_v0) (parts m d)
/-- The two reshapes. -/
def before : List (HloOp τ sig (Elt F)) :=
  [StableHlo.reshape main_arg0 main_v1 (rfl : (.f32 : EltTy) = .f32) shapeCasts_S8388608_S65536x128,
    StableHlo.reshape main_arg1 main_v2 (rfl : (.f32 : EltTy) = .f32) shapeCasts_S8388608_S65536x128]
/-- After the two reshapes, where the region is entered. -/
def V2 (d : Dev nD) : Valuation τ sig (Elt F) := StableHlo.after before (V1 m d)
/-- The region's arrays. -/
abbrev entered (d : Dev nD) (b : Ref sig .tc) : Buf (Elt F) ((SparseCore.T d : Thread nD τ).loc b) := V2 m d (Proc.devRef .tc b)
/-- After the region. -/
def V3 (d : Dev nD) : Valuation τ sig (Elt F) := Function.update (V2 m d) (Proc.devRef .tc main_v3) (fun _ : S1x1.Idx => total (entered m) d 9)
/-- The six operations after the region. -/
def rest : List (HloOp τ sig (Elt F)) :=
  [StableHlo.nullary main_cst (constant S_ .f32 0x00000000#32),
    StableHlo.binary main_v0 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.reshape main_v3 main_v5 (rfl : (.f32 : EltTy) = .f32) shapeCasts_S1x1_S_,
    StableHlo.binary main_v4 main_v5 main_v6 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x4B000000#32),
    StableHlo.binary main_v6 main_cst_0 main_v7 (Host.divf : (⟨S_, .f32⟩ : BufTy).Contents (Elt F) → (⟨S_, .f32⟩ : BufTy).Contents (Elt F) → (⟨S_, .f32⟩ : BufTy).Contents (Elt F))]
/-- At the end. -/
def V4 (d : Dev nD) : Valuation τ sig (Elt F) := StableHlo.after rest (V3 m d)

theorem left_eq (d : Dev nD) : left (entered m) d = fun b => V3 m d (Proc.devRef .tc b) := by
  funext b
  by_cases h : b = main_v3
  · subst h; rw [left_v3]; unfold V3; rw [Function.update_self]
  · rw [left_other _ _ _ h]; unfold V3
    rw [Function.update_of_ne (StableHlo.devRef_ne_of_ne h)]

/-- The SparseCore call's five buffers. -/
def five : Finset (DevRef τ sig) :=
  {Proc.devRef .tc main_arg0, Proc.devRef .tc main_arg1, Proc.devRef .tc main_arg2, Proc.devRef .tc main_arg3, Proc.devRef .tc main_v0}

theorem five_sub : five ⊆ Pipeline.ucRefs τ sig := by decide

/-- The call's five buffers and the others. -/
theorem held_five (d : Dev nD) (V : Valuation τ sig (Elt F)) :
    (StableHlo.held (SparseCore.T d : Thread nD τ) (Pipeline.ucRefs τ sig) V : sProp 𝕄)
      = iprop(((pLoc d ↦{fullShare} V (Proc.devRef .tc main_arg0)) ∗ (tLoc d ↦{fullShare} V (Proc.devRef .tc main_arg1)) ∗ (eLoc d ↦{fullShare} V (Proc.devRef .tc main_arg2))
          ∗ (wLoc d ↦{fullShare} V (Proc.devRef .tc main_arg3)) ∗ oLoc d ↦{fullShare} V (Proc.devRef .tc main_v0))
        ∗ StableHlo.held (SparseCore.T d : Thread nD τ) (Pipeline.ucRefs τ sig \ five) V) := by
  rw [StableHlo.held_sub_split _ five_sub V]
  congr 1
  unfold StableHlo.held five
  rw [SparseCore.bigSep_insert' (by decide), SparseCore.bigSep_insert' (by decide), SparseCore.bigSep_insert' (by decide), SparseCore.bigSep_insert' (by decide), bigSep_singleton]

/-- The shares the TensorCore keeps of the arguments through the call. -/
abbrev Kept (d : Dev nD) : sProp 𝕄 :=
  iprop((pLoc d ↦{Transfers.shareDrop fullShare 32} m (pLoc d)) ∗ (tLoc d ↦{Transfers.shareDrop fullShare 32} m (tLoc d))
    ∗ (eLoc d ↦{Transfers.shareDrop fullShare 32} m (eLoc d)) ∗ (wLoc d ↦{Transfers.shareDrop fullShare 32} m (wLoc d)))

theorem toks_eq (ℓ : Loc nD τ sig) (f : Buf (Elt F) ℓ) :
    (ℓ ↦{fullShare} f : sProp 𝕄) ⊣⊢ iprop((ℓ ↦{Transfers.shareDrop fullShare 32} f) ∗ bigSep Finset.univ fun w : Fin 32 => ℓ ↦{tok w.val} f) :=
  Transfers.pointsTo_toks fullShare 32

/-- The arguments at the full share are what the TensorCore keeps and the tasks' tokens. -/
theorem args_split (d : Dev nD) :
    iprop((pLoc d ↦{fullShare} m (pLoc d)) ∗ (tLoc d ↦{fullShare} m (tLoc d)) ∗ (eLoc d ↦{fullShare} m (eLoc d)) ∗ (wLoc d ↦{fullShare} m (wLoc d)))
      ⊢ (iprop(Kept m d ∗ Toks m d) : sProp 𝕄) := by
  iintro ⟨Hp, Ht, He, Hw⟩
  ihave Hp := (toks_eq _ _).1 $$ Hp
  ihave Ht := (toks_eq _ _).1 $$ Ht
  ihave He := (toks_eq _ _).1 $$ He
  ihave Hw := (toks_eq _ _).1 $$ Hw
  icases Hp with ⟨Hp, Ip⟩
  icases Ht with ⟨Ht, It⟩
  icases He with ⟨He, Ie⟩
  icases Hw with ⟨Hw, Iw⟩
  isplitl [Hp Ht He Hw]
  · isplitl [Hp]; · iexact Hp
    isplitl [Ht]; · iexact Ht
    isplitl [He] <;> iassumption
  · isplitl [Ip]; · iexact Ip
    isplitl [It]; · iexact It
    isplitl [Ie] <;> iassumption

theorem args_join (d : Dev nD) :
    iprop(Kept m d ∗ Toks m d)
      ⊢ (iprop((pLoc d ↦{fullShare} m (pLoc d)) ∗ (tLoc d ↦{fullShare} m (tLoc d)) ∗ (eLoc d ↦{fullShare} m (eLoc d)) ∗ (wLoc d ↦{fullShare} m (wLoc d))) : sProp 𝕄) := by
  iintro ⟨⟨Hp, Ht, He, Hw⟩, Ip, It, Ie, Iw⟩
  isplitl [Hp Ip]
  · iapply (toks_eq (pLoc d) (m (pLoc d))).2; isplitl [Hp]; · iexact Hp
    iexact Ip
  isplitl [Ht It]
  · iapply (toks_eq (tLoc d) (m (tLoc d))).2; isplitl [Ht]; · iexact Ht
    iexact It
  isplitl [He Ie]
  · iapply (toks_eq (eLoc d) (m (eLoc d))).2; isplitl [He]; · iexact He
    iexact Ie
  iapply (toks_eq (wLoc d) (m (wLoc d))).2; isplitl [Hw]; · iexact Hw
  iexact Iw

/-- The launch's buffers are the SparseCore call's operands and what the TensorCore keeps. -/
theorem call_split (d : Dev nD) :
    (StableHlo.held (SparseCore.T d : Thread nD τ) (Pipeline.ucRefs τ sig) (V0 m d) : sProp 𝕄)
      ⊢ iprop((Toks m d ∗ oLoc d ↦{fullShare} m (oLoc d)) ∗ Kept m d ∗ StableHlo.held (SparseCore.T d : Thread nD τ) (Pipeline.ucRefs τ sig \ five) (V0 m d)) := by
  rw [held_five]
  have h := args_split (F := F) m d
  iintro ⟨⟨Hp, Ht, He, Hw, Ho⟩, Hr⟩
  ihave H := h $$ [Hp Ht He Hw]
  · isplitl [Hp]; · iexact Hp
    isplitl [Ht]; · iexact Ht
    isplitl [He]; · iexact He
    iexact Hw
  icases H with ⟨Hk, Hx⟩
  isplitl [Hx Ho]
  · isplitl [Hx]; · iexact Hx
    iexact Ho
  isplitl [Hk] <;> iassumption

theorem V1_other (d : Dev nD) (b : Ref sig .tc) (h : b ≠ main_v0) : V1 m d (Proc.devRef .tc b) = m (d, Proc.devRef .tc b) := by
  unfold V1; rw [Function.update_of_ne (StableHlo.devRef_ne_of_ne h)]; rfl
theorem V1_v0 (d : Dev nD) : V1 m d (Proc.devRef .tc main_v0) = parts m d := by unfold V1; rw [Function.update_self]

/-- The call's operands back, with the partial sums in place. -/
theorem call_join (d : Dev nD) :
    iprop((Toks m d ∗ oLoc d ↦{fullShare} parts m d) ∗ Kept m d ∗ StableHlo.held (SparseCore.T d : Thread nD τ) (Pipeline.ucRefs τ sig \ five) (V0 m d))
      ⊢ (StableHlo.held (SparseCore.T d : Thread nD τ) (Pipeline.ucRefs τ sig) (V1 m d) : sProp 𝕄) := by
  have hr : (StableHlo.held (SparseCore.T d : Thread nD τ) (Pipeline.ucRefs τ sig \ five) (V1 m d) : sProp 𝕄)
      = StableHlo.held (SparseCore.T d : Thread nD τ) (Pipeline.ucRefs τ sig \ five) (V0 m d) :=
    StableHlo.held_congr _ fun b hb => Function.update_of_ne (fun e => (Finset.mem_sdiff.mp hb).2 (by rw [e]; decide)) _ _
  rw [held_five, hr, V1_other m d main_arg0 (by decide), V1_other m d main_arg1 (by decide), V1_other m d main_arg2 (by decide), V1_other m d main_arg3 (by decide), V1_v0]
  have h := args_join (F := F) m d
  iintro ⟨⟨Hx, Ho⟩, Hk, Hr⟩
  ihave H := h $$ [Hx Hk]
  · isplitl [Hk] <;> iassumption
  icases H with ⟨Hp, Ht, He, Hw⟩
  isplitr [Hr]
  · isplitl [Hp]; · iexact Hp
    isplitl [Ht]; · iexact Ht
    isplitl [He]; · iexact He
    isplitl [Hw] <;> iassumption
  iexact Hr

theorem st0_eq (d : Dev nD) : (bigSep Finset.univ fun c : Fin ((K (F := F)).nCore 0) => (P m).st 0 d c) = iprop(Toks m d ∗ oLoc d ↦{fullShare} m (oLoc d)) :=
  tasks_eq m d (m (oLoc d))
theorem dn0_eq (d : Dev nD) : (bigSep Finset.univ fun c : Fin ((K (F := F)).nCore 0) => (P m).dn 0 d c) = iprop(Toks m d ∗ oLoc d ↦{fullShare} parts m d) :=
  tasks_eq m d (parts m d)

theorem before_all : (before (F := F)).Forall fun op => op.bufs ⊆ StableHlo.tcRefs τ sig ∧ op.fresh = ∅ :=
  ⟨⟨StableHlo.reshape_bufs_sub .., rfl⟩, StableHlo.reshape_bufs_sub .., rfl⟩
theorem rest_all : (rest (F := F)).Forall fun op => op.bufs ⊆ StableHlo.tcRefs τ sig ∧ op.fresh = ∅ :=
  ⟨⟨StableHlo.nullary_bufs_sub .., rfl⟩, ⟨StableHlo.binary_bufs_sub .., rfl⟩, ⟨StableHlo.reshape_bufs_sub .., rfl⟩, ⟨StableHlo.binary_bufs_sub .., rfl⟩,
    ⟨StableHlo.nullary_bufs_sub .., rfl⟩, StableHlo.binary_bufs_sub .., rfl⟩

/-- A line of host operations from the buffers held at `V`. -/
theorem host_line (d : Dev nD) {ops : List (HloOp τ sig (Elt F))} (hops : ops.Forall fun op => op.bufs ⊆ StableHlo.tcRefs τ sig ∧ op.fresh = ∅)
    (k : PUnit → Prog (TpuEff nD τ sig (Elt F) (SparseCore.Sig (ΛP (F := F)) 1) .tc) PUnit) (V : Valuation τ sig (Elt F)) (Q : PUnit → sProp 𝕄) :
    iprop(boundary (SparseCore.T d : Thread nD τ) ∗ StableHlo.held (SparseCore.T d : Thread nD τ) (Pipeline.ucRefs τ sig) V)
      ⊢ iprop(((boundary (SparseCore.T d : Thread nD τ) ∗ StableHlo.held (SparseCore.T d : Thread nD τ) (Pipeline.ucRefs τ sig) (StableHlo.after ops V))
              -∗ wp frame (wpE ((K (F := F)).defs (D (F := F))) 𝒱 (SparseCore.T d : Thread nD τ) none) Set.univ (k ⟨⟩) Q)
          -∗ wp frame (wpE ((K (F := F)).defs (D (F := F))) 𝒱 (SparseCore.T d : Thread nD τ) none) Set.univ (StableHlo.seq ops >>= k) Q) :=
  StableHlo.wp_seq (defs := (K (F := F)).defs (D (F := F))) (𝒱 := 𝒱) (bd := none) (E := Set.univ) d (Pipeline.ucRefs τ sig) k (K := Q) ops
    (fun op h => Pipeline.sub_ucRefs op (List.forall_iff_forall_mem.mp hops op h).1) (fun op h => (List.forall_iff_forall_mem.mp hops op h).2) V

/-- @main: the SparseCore call, the two reshapes, the region, the last six operations. -/
theorem main_eq (d : Dev nD) : main (F := F) d
    = (K (F := F)).run d 0 >>= fun _ => StableHlo.seq before >>= fun _ => Prog.lift (.customCall (SparseCore.inner (Pipeline.entry 0)) ()) >>= fun _ =>
        StableHlo.seq rest >>= fun _ => pure ⟨⟩ := by
  unfold main before rest
  simp only [StableHlo.seq, bind_assoc, pure_bind]

abbrev FIN (d : Dev nD) : sProp 𝕄 := StableHlo.held (SparseCore.T d : Thread nD τ) (Pipeline.ucRefs τ sig) (V4 m d)

/-- @main after the SparseCore call: the reshapes, the region and the last six operations. -/
theorem after_call [∀ e, Nonempty (Elt F e)] (d : Dev nD) (Q : PUnit → sProp 𝕄) :
    iprop((iprop(boundary (SparseCore.T d : Thread nD τ) ∗ FIN m d ∗ idle d) -∗ Q ⟨⟩)
        ∗ boundary (SparseCore.T d : Thread nD τ) ∗ StableHlo.held (SparseCore.T d : Thread nD τ) (Pipeline.ucRefs τ sig) (V1 m d) ∗ idle d ∗ levAts (K (F := F)).L (K (F := F)).lev ∗ Fund d)
      ⊢ wp frame (wpE ((K (F := F)).defs (D (F := F))) 𝒱 (SparseCore.T d : Thread nD τ) none) Set.univ
          (StableHlo.seq before >>= fun _ => Prog.lift (.customCall (SparseCore.inner (Pipeline.entry 0)) ()) >>= fun _ => StableHlo.seq rest >>= fun _ => pure ⟨⟩) Q := by
  have h1 := host_line d before_all (fun _ => Prog.lift (.customCall (SparseCore.inner (Pipeline.entry 0)) ()) >>= fun _ => StableHlo.seq rest >>= fun _ => pure ⟨⟩) (V1 m d) Q
  have h2 := region_call (entered m) d (fun _ => wp frame (wpE ((K (F := F)).defs (D (F := F))) 𝒱 (SparseCore.T d : Thread nD τ) none) Set.univ
    (StableHlo.seq rest >>= fun _ => pure ⟨⟩) Q)
  beta_reduce at h1
  rw [wp_bind _ _ _ (Prog.lift _)] at h1
  rw [left_eq] at h2
  rw [show (unscopedBufs d (fun b => V3 m d (Proc.devRef .tc b)) : sProp 𝕄) = _ from Pipeline.unscopedBufs_held d (V3 m d),
    show (unscopedBufs d (entered m d) : sProp 𝕄) = _ from Pipeline.unscopedBufs_held d (V2 m d)] at h2
  have h3 := host_line d rest_all (fun _ => pure ⟨⟩) (V3 m d) Q
  simp only [wp_pure] at h3
  iintro ⟨HQ, Hb, Hh, HO, Hl, HF⟩
  iapply h1 $$ [Hb Hh]
  · isplitl [Hb] <;> iassumption
  iintro ⟨Hb, Hh⟩
  iapply h2
  isplitl [HQ]
  · iintro ⟨Hb, Hh, HO⟩
    iapply h3 $$ [Hb Hh]
    · isplitl [Hb] <;> iassumption
    iintro ⟨Hb, Hh⟩
    imodintro
    iapply HQ
    isplitl [Hb]; · iexact Hb
    isplitl [Hh]; · iexact Hh
    iexact HO
  isplitl [Hb]; · iexact Hb
  isplitl [Hh HO]
  · isplitl [Hh]; · iexact Hh
    iexact HO
  isplitl [Hl] <;> iassumption

/-- The TensorCore's waits out of its state after the call, and back. -/
theorem state_out (d : Dev nD) : (K (F := F)).tcSt EH d 1 ⊢ (iprop(idle d ∗ (idle d -∗ (K (F := F)).tcSt EH d 1)) : sProp 𝕄) := by
  unfold SparseCore.Cfg.tcSt
  rw [(K (F := F)).Otc_end d (le_refl 1)]
  iintro ⟨HO, Hr⟩
  isplitl [HO]; · iexact HO
  iintro HO
  isplitl [HO]; · iexact HO
  iexact Hr

/-- @main on a device's TensorCore: from the launch's buffers to the last valuation. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Fund d)
      ⊢ wp frame (wpE ((K (F := F)).defs (D (F := F))) 𝒱 (SparseCore.T d : Thread nD τ) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = StableHlo.held (SparseCore.T d : Thread nD τ) (Pipeline.ucRefs τ sig) (V0 m d) from
    Pipeline.unscopedBufs_held d (V0 m d)]
  have hs := call_split m d
  have hj := call_join m d
  have hst : (K (F := F)).tcSt EH d ((0 : Fin 1).val + 1) ⊢ _ := state_out (F := F) d
  have hl := (K (F := F)).ctx_levAts (EH := EH) (P := P m) κ (lv := (K (F := F)).lev)
  rw [main_eq]
  rw [wp_bind]
  iintro ⟨#Hctx, Hst, ⟨Hb, Hub, Hts, -⟩, HF⟩
  ihave H := hs $$ Hub
  icases H with ⟨Hops, Hk, Hr⟩
  iapply ((K (F := F)).wp_run (D (F := F)) 𝒱 (EH := EH) (P := P m) κ d 0) $$ [Hst Hops Hk Hr Hb Hts HF]
  isplitr; · iexact Hctx
  isplitl [Hst]; · iexact Hst
  isplitl [Hops]; · rw [st0_eq]; iexact Hops
  iintro ⟨Hst, Hdn⟩
  ihave Hdn' := (Entails.of_eq (dn0_eq m d)) $$ Hdn
  ihave Hub := hj $$ [Hdn' Hk Hr]
  · isplitl [Hdn']; · iexact Hdn'
    isplitl [Hk] <;> iassumption
  iapply (after_call m d _)
  ihave H := hst $$ Hst
  icases H with ⟨HO, Hst⟩
  isplitl [Hst Hts]
  · iintro ⟨Hb, Hh, HO⟩
    isplitl [Hst HO]; · iapply Hst; iexact HO
    isplitl [Hh]; · iexact Hh
    isplitl [Hb] <;> iassumption
  isplitl [Hb]; · iexact Hb
  isplitl [Hub]; · iexact Hub
  isplitl [HO]; · iexact HO
  isplitr; · iapply hl; iexact Hctx
  iexact HF

/-! ## The program's run -/

/-- Every buffer outside the regions' scopes is at the last valuation. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  refine fun x hx b hb => ?_
  have h : (iprop(FIN m d ∗ SI s') : sProp 𝕄) ⊢ ⌜∀ i ∈ Finset.univ, s'.mem.mem (d, b) i = V4 m d b i⌝ :=
    (BI.sep_mono (BI.bigSep_elim hb) (BI.Entails.refl _)).trans (sep_comm.1.trans (SI_pointsTo_agree (ℓ := (d, b)) (q := fullShare)))
  exact funext fun i => h x hx i (Finset.mem_univ i)

def QC : PUnit × MemSt nD τ sig (Elt F) → Prop := fun r => (∀ d : Dev nD, ∀ b ∈ Pipeline.ucRefs τ sig, r.2.mem (d, b) = V4 m d b) ∧ r.2.sem = fun _ => 0

/-- The whole program's run: every buffer at the last valuation, every semaphore back at zero. -/
theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => Fund d) (FIN m) (u₀ (F := F)) (sep_elim_left.trans (hu₀ m)) (hmain m ρ) (fq m) (hfin m) (QC m) (fun _ h hz => ⟨h, hz⟩)

end Cert.Proof.Loss

end
-- ==== Proof.Frame.lean ====
/-
  What the whole run leaves: the arguments as they were and every semaphore at zero, for the kernel's program under either
  precondition and for the reference.
-/
module

public import proofs.«01_k».proof.Proof.Run
public import proofs.«01_k».proof.Proof.Gen.Kernel
public import proofs.«01_k».proof.Proof.Gen.ReferenceIdeal.Run
public import proofs.«01_k».proof.Proof.Gen.Pre_tenths
public import proofs.«01_k».proof.Proof.Gen.Pre_ticks_in_range
public import Idealize.ShloMosaic.Lib.Pipeline.FrameTail

@[expose] public section

noncomputable section

namespace Cert.Proof.Loss

open Cert.KernelIdeal Cert.KernelIdeal.Gen

open Idealize.ShloMosaic Idealize.SL.Sem Idealize.ShloMosaic.TcCoe

variable {F : FTy → Type} [FloatOps F]
variable (m : (ℓ : Loc nD τ sig) → Buf (Elt F) ℓ) (ρ : Dev nD → PrngReg)

/-- A buffer that neither call, and no host operation, writes ends as it was. -/
theorem V4_keeps (d : Dev nD) (b : Ref sig .tc) (hr : b ∉ [main_cst, main_v4, main_v5, main_v6, main_cst_0, main_v7]) (h3 : b ≠ main_v3)
    (hb : b ∉ [main_v1, main_v2]) (h0 : b ≠ main_v0) : V4 m d (Proc.devRef .tc b) = m (d, Proc.devRef .tc b) := by
  unfold V4
  rw [StableHlo.after_of_writes_sub rest _ (StableHlo.forall_writes_sub_of_map rfl) hr]
  unfold V3
  rw [Function.update_of_ne (StableHlo.devRef_ne_of_ne h3)]
  unfold V2
  rw [StableHlo.after_of_writes_sub before _ (StableHlo.forall_writes_sub_of_map rfl) hb]
  exact V1_other m d b h0

/-- The four arguments of one device are unchanged. -/
def Same (c : Dev nD) (M : (ℓ : Loc nD τ sig) → Buf (Elt F) ℓ) : Prop :=
  M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)

/-- A final memory read at the result and at the arguments. -/
theorem read_out (r : PUnit × MemSt nD τ sig (Elt F)) (h : QC m r) (c : Dev nD) :
    r.2.mem ((c.tc : Thread nD τ).loc main_v7) = V4 m c (Proc.devRef .tc main_v7) ∧ Same m c r.2.mem :=
  ⟨h.1 c _ (Pipeline.devRef_mem_ucRefs (by decide)),
    (h.1 c _ (Pipeline.devRef_mem_ucRefs (by decide))).trans (V4_keeps m c main_arg0 (by decide) (by decide) (by decide) (by decide)),
    (h.1 c _ (Pipeline.devRef_mem_ucRefs (by decide))).trans (V4_keeps m c main_arg1 (by decide) (by decide) (by decide) (by decide)),
    (h.1 c _ (Pipeline.devRef_mem_ucRefs (by decide))).trans (V4_keeps m c main_arg2 (by decide) (by decide) (by decide) (by decide)),
    (h.1 c _ (Pipeline.devRef_mem_ucRefs (by decide))).trans (V4_keeps m c main_arg3 (by decide) (by decide) (by decide) (by decide))⟩

theorem run_frame [∀ e, Nonempty (Elt F e)] (hpre : PreOK m) :
    θ_run (defs (F := F)) (threads (F := F)) ⟨m, fun _ => 0, ρ⟩ fun r => (∀ c : Dev nD, Same m c r.2.mem) ∧ r.2.sem = fun _ => 0 :=
  (θ_run (defs (F := F)) _ _).mono (fun r h => ⟨fun c => (read_out m r h c).2, h.2⟩) (run_main m ρ hpre)

/-! ## The preconditions -/

/-- A word compared with 0 from below and with 14 from above, both signed. -/
theorem word_le (v : BitVec 32) (h : IntOp.andi (IntOp.cmpi .sge v 0#32) (IntOp.cmpi .sle v 14#32) = 1#1) : v.toNat ≤ 14 := by
  have key : ∀ a b : Bool, BitVec.ofBool a &&& BitVec.ofBool b = 1#1 → a = true ∧ b = true := by decide
  obtain ⟨h0, h1⟩ := key _ _ h
  simp only [BitVec.sle_eq_decide, decide_eq_true_eq, BitVec.toInt_eq_toNat_cond, BitVec.toNat_ofNat] at h0 h1
  have hv := v.isLt
  split at h0 <;> omega

/-! ## The frames -/

/-- The precondition on the targets' ticks, of one memory. -/
def TicksOK [hP : Cert.Pre_ticks_in_range.Facts] : Prop :=
  ∀ c : Dev nD, Cert.Pre_ticks_in_range.fn (F := F) (m ((c.tc : Thread nD τ).loc main_arg0)) (m ((c.tc : Thread nD τ).loc main_arg1))
    (m ((c.tc : Thread nD τ).loc main_arg2)) (m ((c.tc : Thread nD τ).loc main_arg3)) = fun _ => 1#1

theorem frame_ticks [hP : Cert.Pre_ticks_in_range.Facts] [∀ e, Nonempty (Elt F e)] (h : TicksOK m) :
    θ_run (defs (F := F)) (threads (F := F)) ⟨m, fun _ => 0, ρ⟩ fun r => (∀ c : Dev nD, Same m c r.2.mem) ∧ r.2.sem = fun _ => 0 :=
  run_frame m ρ fun d j => word_le _ (congrFun (h d) j)

/-- The two programs have one text, so a claim of one is the claim of the other. -/
theorem bits_eq [hP : Cert.Pre_ticks_in_range.Facts] : Cert.quiescent_Kernel
    = ∀ (m : (ℓ : Loc nD τ sig) → Buf (Elt Bits) ℓ) (ρ : Dev nD → PrngReg), TicksOK m →
        θ_run (defs (F := Bits)) (threads (F := Bits)) ⟨m, fun _ => 0, ρ⟩ fun r => (∀ c : Dev nD, Same m c r.2.mem) ∧ r.2.sem = fun _ => 0 := by
  chain_rfl

theorem frame_bits [hP : Cert.Pre_ticks_in_range.Facts] : Cert.quiescent_Kernel := bits_eq.mpr fun m ρ h => frame_ticks m ρ h

theorem frame_ideal [hP : Cert.Pre_ticks_in_range.Facts] : Cert.quiescent_KernelIdeal := fun m ρ h => frame_ticks m ρ h

theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_tenths [hP : Cert.Pre_tenths.Facts] : Cert.quiescent_ReferenceIdeal_pre_tenths := fun m ρ _ =>
  frame_reference m ρ trivial

end Cert.Proof.Loss

end
-- ==== Proof.Weight.lean ====
/-
  One element's weight over the extended reals. Near-tenth edges split at a target's rank: edge k lies below the target
  exactly when k is less than the rank. So the TensorCore's telescoped sum of weight differences, the SparseCore's gathered
  weight and the weight at the counted bin are one number.
-/
module

public import proofs.«01_k».proof.Proof.Setup
public import Idealize.ShloMosaic.Lib.IdealHost

@[expose] public section

noncomputable section

namespace Cert.Proof.Loss

open Cert.KernelIdeal Cert.KernelIdeal.Gen

open Idealize.ShloMosaic

/-! ## Four literals -/

theorem lit_zero : (FloatOps.ofBits .f32 0x00000000#32 : Ideal .f32) = 0 := by
  show Ideal.ofBits .f32 _ = _
  simp [Ideal.ofBits, Ideal.ieee]
theorem lit_ten : (FloatOps.ofBits .f32 0x41200000#32 : Ideal .f32) = ((10 : ℝ) : EReal) := by
  show Ideal.ofBits .f32 _ = _
  simp [Ideal.ofBits, Ideal.ieee, -EReal.coe_mul]; norm_num
theorem lit_half : (FloatOps.ofBits .f32 0x3F000000#32 : Ideal .f32) = ((1 / 2 : ℝ) : EReal) := by
  show Ideal.ofBits .f32 _ = _
  simp [Ideal.ofBits, Ideal.ieee, -EReal.coe_mul]; norm_num
theorem lit_top : (FloatOps.ofBits .f32 0x7F800000#32 : Ideal .f32) = (⊤ : EReal) := by
  show Ideal.ofBits .f32 _ = _
  simp [Ideal.ofBits, Ideal.ieee]

/-! ## The rank of a target -/

/-- An extended real whose magnitude is bounded by a real is a real. -/
theorem real_of_abs_lt {x : EReal} {b : EReal} (h : max x (-x) < b) : ∃ r : ℝ, x = r := by
  induction x with
  | bot => exact absurd (lt_of_lt_of_le h le_top) (by simp)
  | top => exact absurd (lt_of_lt_of_le h le_top) (by simp)
  | coe r => exact ⟨r, rfl⟩

/-- What the argument says of the edges, the weights: edge `k` is nearer `k` tenths than half a tenth, every weight is a real. -/
def NearTenths (e : S11.Idx → EReal) : Prop := ∀ k < 11, ∃ r : ℝ, e (pos 11 k) = r ∧ |r * 10 - k| < 1 / 2
def RealWeights (w : S10.Idx → EReal) : Prop := ∀ i, ∃ r : ℝ, w i = r

/-- Truncation to a word that reads at most 14: the word is the real's integer part. -/
theorem trunc_spec (x : ℝ) (h : (Ideal.fptosi 32 (x : EReal)).toNat ≤ 14) :
    ((Ideal.fptosi 32 (x : EReal)).toNat = 0 ∨ ((Ideal.fptosi 32 (x : EReal)).toNat : ℝ) ≤ x) ∧ x < (Ideal.fptosi 32 (x : EReal)).toNat + 1 := by
  have e : Ideal.fptosi 32 (x : EReal) = BitVec.ofInt 32 (max (-2147483648) (min 2147483647 (if 0 ≤ x then ⌊x⌋ else ⌈x⌉))) := by
    unfold Ideal.fptosi; rw [Ideal.toIntClamped_coe]; norm_num
  rw [e] at h ⊢
  generalize hc : (if 0 ≤ x then ⌊x⌋ else ⌈x⌉) = c at h ⊢
  generalize hn : (BitVec.ofInt 32 (max (-2147483648) (min 2147483647 c))).toNat = n at h ⊢
  rw [BitVec.toNat_ofInt] at hn
  have hcn : c = n := by omega
  subst hcn
  split at hc
  · obtain ⟨h0, h1⟩ := Int.floor_eq_iff.mp hc
    exact ⟨Or.inr (by exact_mod_cast h0), by exact_mod_cast h1⟩
  · have hx : x < 0 := not_le.mp ‹_›
    obtain ⟨h0, h1⟩ := Int.ceil_eq_iff.mp hc
    have hn0 : n = 0 := by
      by_contra hne
      have : (1 : ℝ) ≤ n := by exact_mod_cast Nat.one_le_iff_ne_zero.mpr hne
      have h0' : (n : ℝ) - 1 < x := by exact_mod_cast h0
      linarith
    subst hn0
    exact ⟨Or.inl rfl, by simp; linarith⟩

/-- A tick in range makes the target a real, whose tick is its rounding. -/
theorem tick_spec (t : EReal) (h : (tick (F := Ideal) t).toNat ≤ 14) :
    ∃ r : ℝ, t = r ∧ ((tick (F := Ideal) t).toNat = 0 ∨ ((tick (F := Ideal) t).toNat : ℝ) ≤ r * 10 + 1 / 2) ∧ r * 10 + 1 / 2 < (tick (F := Ideal) t).toNat + 1 := by
  have he : tick (F := Ideal) t = Ideal.fptosi 32 (t * ((10 : ℝ) : EReal) + ((1 / 2 : ℝ) : EReal)) := by
    unfold tick; rw [lit_ten, lit_half]; rfl
  rw [he] at h ⊢
  induction t with
  | bot =>
    unfold Ideal.fptosi at h
    rw [EReal.bot_mul_coe_of_pos (by norm_num), EReal.bot_add, Ideal.toIntClamped_bot] at h
    exact absurd h (by decide)
  | top =>
    unfold Ideal.fptosi at h
    rw [EReal.top_mul_coe_of_pos (by norm_num), EReal.top_add_coe, Ideal.toIntClamped_top] at h
    exact absurd h (by decide)
  | coe r =>
    rw [← EReal.coe_mul, ← EReal.coe_add] at h ⊢
    exact ⟨r, rfl, trunc_spec _ h⟩

/-- An ordered comparison's bit. -/
theorem gt_iff (x y : EReal) : (FloatOps.cmpf (F := Ideal) (φ := .f32) .ogt x y = 1) ↔ y < x := by
  show Ideal.cmp .ogt x y = 1 ↔ _
  by_cases h : y < x <;> simp [Ideal.cmp, h]

/-- Edge `k` lies below the target exactly when `k` is less than the target's rank. -/
theorem rank_spec {e : S11.Idx → EReal} (he : NearTenths e) {t : EReal} (h : (tick (F := Ideal) t).toNat ≤ 14) :
    ∀ k < 11, e (pos 11 k) < t ↔ k < (rank (F := Ideal) e t).toNat := by
  obtain ⟨r, ht, h0, h1⟩ := tick_spec t h
  have hr : (rank (F := Ideal) e t).toNat = (tick (F := Ideal) t).toNat + if e (pos 11 (tick (F := Ideal) t).toNat) < t then 1 else 0 := by
    unfold rank Scalar.select
    simp only [gt_iff]
    split <;> simp [IntOp.addi, BitVec.toNat_add] <;> omega
  generalize (tick (F := Ideal) t).toNat = g at h h0 h1 hr
  rw [hr]
  intro k hk
  obtain ⟨a, ha, hb⟩ := he k hk
  rw [abs_lt] at hb
  rcases lt_trichotomy k g with hkg | hkg | hkg
  · refine iff_of_true ?_ (by omega)
    rw [ha, ht, EReal.coe_lt_coe_iff]
    have : (k : ℝ) + 1 ≤ g := by exact_mod_cast hkg
    have h0' : (g : ℝ) ≤ r * 10 + 1 / 2 := h0.resolve_left (by omega)
    linarith
  · subst hkg
    split <;> simp_all
  · refine iff_of_false ?_ (by split <;> omega)
    rw [ha, ht, EReal.coe_lt_coe_iff]
    have : (g : ℝ) + 1 ≤ k := by exact_mod_cast hkg
    linarith

/-! ## The telescoped sum -/

/-- The TensorCore's weight after `n` edges: each edge below the target adds the next difference. -/
def tele (e : S11.Idx → EReal) (w : S10.Idx → EReal) (t : EReal) : ℕ → EReal
  | 0 => w (pos 10 0)
  | n + 1 => tele e w t n + Scalar.select (FloatOps.cmpf (F := Ideal) (φ := .f32) .ogt t (e (pos 11 (n + 1)))) (w (pos 10 (n + 1)) - w (pos 10 n)) 0

theorem tele_min {e : S11.Idx → EReal} {w : S10.Idx → EReal} (hw : RealWeights w) {t : EReal} {c : ℕ}
    (hc : ∀ k < 11, e (pos 11 k) < t ↔ k < c) (n : ℕ) (hn : n ≤ 9) : tele e w t n = w (pos 10 (min (c - 1) n)) := by
  induction n with
  | zero => simp [tele]
  | succ n ih =>
    unfold tele Scalar.select
    rw [ih (by omega)]
    simp only [gt_iff, hc (n + 1) (by omega)]
    split
    · rw [show min (c - 1) n = n by omega, show min (c - 1) (n + 1) = n + 1 by omega]
      obtain ⟨a, ha⟩ := hw (pos 10 n)
      obtain ⟨b, hb⟩ := hw (pos 10 (n + 1))
      rw [ha, hb, ← EReal.coe_sub, ← EReal.coe_add]
      congr 1; ring
    · rw [show min (c - 1) (n + 1) = min (c - 1) n by omega, add_zero]

/-- The TensorCore's weight is the SparseCore's. -/
theorem tele_weight {e : S11.Idx → EReal} {w : S10.Idx → EReal} (he : NearTenths e) (hw : RealWeights w) {t : EReal}
    (h : (tick (F := Ideal) t).toNat ≤ 14) : tele e w t 9 = weight (F := Ideal) e w t :=
  tele_min hw (rank_spec he h) 9 (le_refl 9)

/-! ## The counted bin -/

/-- The number of edges below the target is its rank, and eleven past the last edge. -/
theorem count_below {e : S11.Idx → EReal} (he : NearTenths e) {t : EReal} (h : (tick (F := Ideal) t).toNat ≤ 14) :
    (Finset.univ.filter fun k : Fin 11 => e (pos 11 k.val) < t).card = min (rank (F := Ideal) e t).toNat 11 := by
  have h1 := rank_spec he h
  rw [Finset.filter_congr (q := fun k : Fin 11 => k.val < (rank (F := Ideal) e t).toNat) fun k _ => h1 k.val k.isLt]
  generalize (rank (F := Ideal) e t).toNat = c at h1 ⊢
  clear h1
  rw [Finset.filter_congr (q := fun k : Fin 11 => k.val < min c 11) fun k _ => by have := k.isLt; omega]
  have hc : min c 11 ≤ 11 := Nat.min_le_right _ _
  generalize min c 11 = n at hc ⊢
  interval_cases n <;> decide

end Cert.Proof.Loss

end
-- ==== Proof.Sum.lean ====
/-
  The kernel's sums over the extended reals: a running sum is a sum, a block's step adds the block's terms, and the
  SparseCore's stretches with the TensorCore's blocks are every element once.
-/
module

public import proofs.«01_k».proof.Proof.Block
public import proofs.«01_k».proof.Proof.Weight
public import Idealize.ShloMosaic.Lib.Pipeline.ValueKit.Acc

@[expose] public section

noncomputable section

namespace Cert.Proof.Loss

open Cert.KernelIdeal Cert.KernelIdeal.Gen

open Idealize.ShloMosaic

/-! ## Running sums -/

theorem run_eq (f : ℕ → EReal) (a : EReal) (n : ℕ) : run (F := Ideal) f a n = a + ∑ k ∈ Finset.range n, f k := by
  induction n with
  | zero => simp [run]
  | succ n ih =>
    rw [Finset.sum_range_succ, ← add_assoc, ← ih]
    rfl

/-! ## One block -/

/-- A block summed to one word, and the word added. -/
theorem block_total (v : S4096x128.Idx → EReal) (a : EReal) :
    Scalar.addf (F := Ideal) (φ := .f32) a (extractAt ![0, 0, 0] (shapeCast S1x1x1 (multiReduction (F := Ideal) (φ := .f32) .add [1, 2] S1
      (shapeCast S1x4096x128 v shapeCasts_S4096x128_S1x4096x128) 0x00000000#32 reduces_S1x4096x128_S1 (.inl rfl) rfl) shapeCasts_S1_S1x1x1) inpos_S1x1x1_p0_0_0)
      = a + ∑ x, v x := by
  refine congrArg (a + ·) ?_
  have h1 : ∀ b : Fin S1.rank, S1.size b = 1 := fun b => match b with | 0 => rfl
  refine (Ideal.multiReduction_add_total (t := S1) _ 0x00000000#32 reduces_S1x4096x128_S1 h1 (.inl rfl) rfl _).trans ?_
  exact Equiv.sum_comp (Shape.reshapeEquiv shapeCasts_S4096x128_S1x4096x128) v

/-- A block's step adds each element's square times its telescoped weight. -/
theorem block_tele (e : S11.Idx → EReal) (w : S10.Idx → EReal) (p t : S4096x128.Idx → EReal) (a : EReal) :
    blockStep (F := Ideal) e w p t a = a + ∑ x, (p x - t x) * (p x - t x) * tele e w (t x) 9 := by
  have hp : ∀ v : S4096x128.Idx → EReal, shapeCast S4096x128 v shapeCasts_S4096x128_S4096x128 = v := fun v => shapeCast_self v _
  unfold blockStep k1_pay1 k1_pay6 k1_pay3 k1_pay4 k1_pay7 k1_pay5 k1_pay2
  rw [hp p, hp t]
  refine (block_total _ a).trans (congrArg (a + ·) (Finset.sum_congr rfl fun x _ => ?_))
  have h0 : (Scalar.ofBits (F := Ideal) .f32 0x00000000#32 : EReal) = 0 := lit_zero
  rw [h0]
  rfl

/-- With weights and edges as the argument says, those are the terms. -/
theorem block_terms {e : S11.Idx → EReal} {w : S10.Idx → EReal} (he : NearTenths e) (hw : RealWeights w) (p t : S4096x128.Idx → EReal) (a : EReal)
    (h : ∀ x, (tick (F := Ideal) (t x)).toNat ≤ 14) : blockStep (F := Ideal) e w p t a = a + ∑ x, term (F := Ideal) e w (p x) (t x) := by
  rw [block_tele]
  exact congrArg (a + ·) (Finset.sum_congr rfl fun x _ => congrArg ((p x - t x) * (p x - t x) * ·) (tele_weight he hw (h x)))

/-! ## Every element once -/

/-- A sum over a vector is the sum over its elements' numbers. -/
theorem sum_vector {n : ℕ} [NeZero n] (g : (⟨1, ![n]⟩ : Shape).Idx → EReal) : ∑ i, g i = ∑ k ∈ Finset.range n, g (pos n k) := by
  refine Eq.trans ?_ (Fin.sum_idx1_range ![n] fun k => g (pos n k))
  exact Finset.sum_congr rfl fun i _ => congrArg g (pos_val i).symm

/-- Rows `a` of lanes `b`, each summing every `B`-th element of its stretch of `N * B`, sum the first `A * (N * B)` elements. -/
theorem sum_lanes (A B N : ℕ) (g : ℕ → EReal) :
    ∑ a ∈ Finset.range A, ∑ b ∈ Finset.range B, ∑ k ∈ Finset.range N, g (a * (N * B) + (k * B + b)) = ∑ k ∈ Finset.range (A * (N * B)), g k := by
  rw [Finset.sum_range_mul_split]
  refine Finset.sum_congr rfl fun a _ => ?_
  rw [Finset.sum_range_mul_split, Finset.sum_comm]

/-- Blocks `n` of rows `a` of columns `b` sum the elements from `s` on. -/
theorem sum_blocks (N A B s : ℕ) (g : ℕ → EReal) :
    ∑ n ∈ Finset.range N, ∑ a ∈ Finset.range A, ∑ b ∈ Finset.range B, g (s + (n * (A * B) + (a * B + b))) = ∑ k ∈ Finset.range (N * (A * B)), g (s + k) := by
  rw [Finset.sum_range_mul_split N]
  refine Finset.sum_congr rfl fun n _ => ?_
  rw [Finset.sum_range_mul_split A]

end Cert.Proof.Loss

end
-- ==== Proof.Bins.lean ====
/-
  The reference's result over the extended reals: its counted, clipped and gathered bin is the weight at the target's rank,
  and its mean is the sum of the terms over every element, divided.
-/
module

public import proofs.«01_k».proof.Proof.Weight
public import proofs.«01_k».proof.Proof.Gen.ReferenceIdeal
public import Idealize.ShloMosaic.Lib.StableHlo.Predicate

@[expose] public section

noncomputable section

namespace Cert.Proof.Loss

open Cert.ReferenceIdeal Cert.ReferenceIdeal.Gen

open Idealize.ShloMosaic

variable (e : S11.Idx → EReal) (w : S10.Idx → EReal) (p t : S8388608.Idx → EReal)

/-- Per target, the number of edges below it, as the reference counts them. -/
def counted : IVec S8388608 32 :=
  Host.reduce IntOp.addi (extui 32 (cmpf (F := Ideal) (φ := .f32) .olt
      (broadcastInDim S8388608x11 ![0, 1] bcast_S1x11_S8388608x11_0_1 (broadcastInDim S1x11 ![1] bcast_S11_S1x11_1 e))
      (broadcastInDim S8388608x11 ![0, 1] bcast_S8388608x1_S8388608x11_0_1 (broadcastInDim S8388608x1 ![0] bcast_S8388608_S8388608x1_0 t))) natLt_1_32)
    (constantI S_ 32 0#32) reducesTo_S8388608x11_S8388608_d1 h_S_

/-- One less, clipped to the bins' numbers. -/
def clipped : IVec S8388608 32 :=
  minsi (broadcastInDim S8388608 ![] bcast_S_S8388608 (id (constantI S_ 32 9#32)))
    (maxsi (broadcastInDim S8388608 ![] bcast_S_S8388608 (id (constantI S_ 32 0#32)))
      (subi (counted e t) (broadcastInDim S8388608 ![] bcast_S_S8388608 (constantI S_ 32 1#32))))

/-- A negative index counted from the end, as indexing does. -/
def wrapped : IVec S8388608 32 :=
  select (cmpi .slt (clipped e t) (broadcastInDim S8388608 ![] bcast_S_S8388608 (constantI S_ 32 0#32)))
    (addi (clipped e t) (broadcastInDim S8388608 ![] bcast_S_S8388608 (constantI S_ 32 10#32))) (clipped e t)

/-- The reference's result. -/
def mean : S_.Idx → EReal :=
  Host.divf (F := Ideal) (φ := .f32)
    (Host.reduceAdd (F := Ideal) (φ := .f32)
      (mulf (F := Ideal) (φ := .f32) (mulf (F := Ideal) (φ := .f32) (subf (F := Ideal) (φ := .f32) p t) (subf (F := Ideal) (φ := .f32) p t))
        (Host.gather gather_S10_S8388608x1_S8388608_n_0_n_n_0_1_1 w (broadcastInDim S8388608x1 ![0] bcast_S8388608_S8388608x1_0 (wrapped e t))))
      (constant S_ .f32 0x00000000#32) reducesTo_S8388608_S_d0 h_S_)
    (constant S_ .f32 0x4B000000#32)

theorem lt_iff (x y : EReal) : (FloatOps.cmpf (F := Ideal) (φ := .f32) .olt x y = 1#1) ↔ x < y := by
  show Ideal.cmp .olt x y = 1#1 ↔ _
  by_cases h : x < y <;> simp [Ideal.cmp, h]

theorem index_eta (i : S8388608.Idx) : Shape.Idx.ofFin (i 0) = i := by
  funext a; match a with | ⟨0, _⟩ => rfl

variable {e} {w}

theorem counted_eq (he : NearTenths e) (i : S8388608.Idx) (h : (tick (F := Ideal) (t i)).toNat ≤ 14) :
    (counted e t i).toNat = min (rank (F := Ideal) e (t i)).toNat 11 := by
  unfold counted
  rw [StableHlo.Predicate.toNat_reduce_count_cols (by norm_num), ← count_below he h]
  congr 1
  refine Finset.filter_congr fun q _ => ?_
  have hx : broadcastInDim S8388608x11 ![0, 1] bcast_S1x11_S8388608x11_0_1 (broadcastInDim S1x11 ![1] bcast_S11_S1x11_1 e) (StableHlo.Predicate.ij (i 0) q)
      = e (pos 11 q.val) := (StableHlo.Predicate.bcast_cols _ _ e (i 0) q).trans (congrArg e (eq_pos _ rfl))
  have hy : broadcastInDim S8388608x11 ![0, 1] bcast_S8388608x1_S8388608x11_0_1 (broadcastInDim S8388608x1 ![0] bcast_S8388608_S8388608x1_0 t) (StableHlo.Predicate.ij (i 0) q)
      = t i := (StableHlo.Predicate.bcast_rows _ _ t (i 0) q).trans (congrArg t (index_eta i))
  exact (iff_of_eq (congrArg₂ (fun x y : EReal => FloatOps.cmpf (F := Ideal) (φ := .f32) .olt x y = 1#1) hx hy)).trans (lt_iff _ _)

/-- The clipped index of a word that counts at most eleven edges. -/
theorem clip_word (c : BitVec 32) (h : c.toNat ≤ 11) :
    (Scalar.select (IntOp.cmpi .slt (IntOp.minsi 9#32 (IntOp.maxsi 0#32 (IntOp.subi c 1#32))) 0#32)
        (IntOp.addi (IntOp.minsi 9#32 (IntOp.maxsi 0#32 (IntOp.subi c 1#32))) 10#32)
        (IntOp.minsi 9#32 (IntOp.maxsi 0#32 (IntOp.subi c 1#32)))).toInt.toNat = min (c.toNat - 1) 9 := by
  obtain ⟨n, hn, rfl⟩ : ∃ n ≤ 11, c = BitVec.ofNat 32 n := ⟨c.toNat, h, by simp⟩
  interval_cases n <;> decide

theorem clip_twice (r : ℕ) : min (min (min r 11 - 1) 9) (10 - 1) = min (r - 1) 9 := by omega

theorem gathered_eq (he : NearTenths e) (i : S8388608.Idx) (h : (tick (F := Ideal) (t i)).toNat ≤ 14) :
    Host.gather gather_S10_S8388608x1_S8388608_n_0_n_n_0_1_1 w (broadcastInDim S8388608x1 ![0] bcast_S8388608_S8388608x1_0 (wrapped e t)) i
      = weight (F := Ideal) e w (t i) := by
  have hc := counted_eq t he i h
  have hk := clip_word (counted e t i) (by omega)
  rw [hc] at hk
  have hb : broadcastInDim S8388608x1 ![0] bcast_S8388608_S8388608x1_0 (wrapped e t) (StableHlo.Predicate.ixP (i 0)) = wrapped e t i :=
    (StableHlo.Predicate.bcast_col1 _ (wrapped e t) (i 0)).trans (congrArg _ (index_eta i))
  have hg := StableHlo.Predicate.gather_take gather_S10_S8388608x1_S8388608_n_0_n_n_0_1_1 rfl rfl rfl rfl w
    (broadcastInDim S8388608x1 ![0] bcast_S8388608_S8388608x1_0 (wrapped e t)) (i 0) (by norm_num)
  refine (congrArg _ (index_eta i).symm).trans (hg.trans (congrArg w (eq_pos _ ?_)))
  show min (broadcastInDim S8388608x1 ![0] bcast_S8388608_S8388608x1_0 (wrapped e t) (StableHlo.Predicate.ixP (i 0))).toInt.toNat (10 - 1) = _
  have hv : (wrapped e t i).toInt.toNat = min (min (rank (F := Ideal) e (t i)).toNat 11 - 1) 9 := hk
  rw [hb, hv]
  exact clip_twice _

/-- A sum of a whole array, started from zero. -/
theorem sum_all {s u : Shape} [Subsingleton S_.Idx] {dims : List (Fin s.rank)} (x : s.Idx → EReal) (z : u.Idx → EReal) (hr : s.ReducesTo dims S_) (hu : 0 < u.numel) (j : S_.Idx)
    (hz : ∀ i, z i = 0) : Host.reduceAdd (F := Ideal) (φ := .f32) x z hr hu j = ∑ i, x i := by
  refine (show Host.reduceAdd (F := Ideal) (φ := .f32) x z hr hu j = z _ + ∑ i ∈ Finset.univ.filter (fun i => hr.drop i = j), x i from rfl).trans ?_
  rw [hz, zero_add, Finset.filter_true_of_mem fun i _ => Subsingleton.elim _ _]

/-- A quotient of arrays, at an index. -/
theorem div_at {s : Shape} (x y : s.Idx → EReal) (j : s.Idx) : Host.divf (F := Ideal) (φ := .f32) x y j = Ideal.div (x j) (y j) := rfl

/-- A product of arrays, at an index. -/
theorem mul_at {s : Shape} (x y : s.Idx → EReal) (j : s.Idx) : mulf (F := Ideal) (φ := .f32) x y j = x j * y j := rfl

/-- The reference's result as one sum. -/
theorem mean_eq (he : NearTenths e) (h : ∀ i, (tick (F := Ideal) (t i)).toNat ≤ 14) (j : S_.Idx) :
    mean e w p t j = Ideal.div (∑ i : S8388608.Idx, term (F := Ideal) e w (p i) (t i)) (FloatOps.ofBits (F := Ideal) .f32 0x4B000000#32) := by
  have hs : ∀ x : S8388608.Idx → EReal, Host.reduceAdd (F := Ideal) (φ := .f32) x (constant S_ .f32 0x00000000#32) reducesTo_S8388608_S_d0 h_S_ j = ∑ i, x i :=
    fun x => sum_all x _ _ h_S_ j fun _ => lit_zero
  unfold mean
  refine (div_at _ _ j).trans ?_
  refine congrArg₂ Ideal.div ((hs _).trans (Finset.sum_congr rfl fun i _ => ?_)) rfl
  exact (mul_at _ _ i).trans (congrArg₂ (· * ·) rfl (gathered_eq t he i (h i)))

end Cert.Proof.Loss

end
-- ==== Proof.Value.lean ====
/-
  The kernel's result over the extended reals, under the argument's promise: the sum of every element's term, divided by
  the number of elements.
-/
module

public import proofs.«01_k».proof.Proof.Frame
public import proofs.«01_k».proof.Proof.Sum
public import proofs.«01_k».proof.Proof.Bins

@[expose] public section

noncomputable section

namespace Cert.Proof.Loss

open Cert.KernelIdeal Cert.KernelIdeal.Gen

open Idealize.ShloMosaic Idealize.SL.Sem Idealize.ShloMosaic.TcCoe

variable (m : (ℓ : Loc nD τ sig) → Buf (Elt Ideal) ℓ) (d : Dev nD)

/-- The term of element `k`. -/
def termAt (k : ℕ) : EReal :=
  term (F := Ideal) (m (eLoc d)) (m (wLoc d)) (m (pLoc d) (pos 8388608 k)) (m (tLoc d) (pos 8388608 k))

/-! ## The SparseCore's partial sums -/

/-- The partial sums as extended reals. -/
def rowSums : S32x16.Idx → EReal := parts (F := Ideal) m d

theorem sum_parts : ∑ i, rowSums m d i = ∑ k ∈ Finset.range (32 * (7168 * 16)), termAt m d k := by
  rw [← sum_lanes 32 16 7168]
  refine Eq.trans ?_ (Fin.sum_idx2_range ![32, 16] fun a b => ∑ k ∈ Finset.range 7168, termAt m d (a * (7168 * 16) + (k * 16 + b)))
  refine Finset.sum_congr rfl fun i _ => ?_
  refine (run_eq _ _ _).trans ?_
  rw [lit_zero, zero_add]
  refine Finset.sum_congr rfl fun k _ => ?_
  rw [show (i 0).val * (7168 * 16) + (k * 16 + (i 1).val) = 114688 * (i 0).val + 16 * k + (i 1).val by omega]
  rfl

/-! ## The TensorCore's total -/

/-- Element `x` of block `n` by its number. -/
theorem cell_number (n : ℕ) (hn : n < 9) (x : S4096x128.Idx) (h : S8388608.ShapeCasts S65536x128) :
    Shape.reshapeEquiv h (cellAt n x) = pos 8388608 (3670016 + (n * (4096 * 128) + ((x 0).val * 128 + (x 1).val))) := by
  have h0 : (x 0).val < 4096 := (x 0).isLt
  have h1 : (x 1).val < 128 := (x 1).isLt
  refine Shape.reshapeEquiv_eq_of_rowMajor h ?_
  rw [Shape.rowMajor_val_one, Shape.rowMajor_val_two, pos_of_lt (by omega)]
  show _ = ((7 + n) * 4096 + (x 0).val) % 65536 * 128 + (x 1).val
  omega

theorem entered_v1 : entered (F := Ideal) m d main_v1 = fun i => m (pLoc d) (Shape.reshapeEquiv shapeCasts_S8388608_S65536x128 i) := by
  show V2 m d (Proc.devRef .tc main_v1) = _
  unfold V2 before
  after_results_simp
  rw [V1_other m d main_arg0 (by decide)]
  rfl
theorem entered_v2 : entered (F := Ideal) m d main_v2 = fun i => m (tLoc d) (Shape.reshapeEquiv shapeCasts_S8388608_S65536x128 i) := by
  show V2 m d (Proc.devRef .tc main_v2) = _
  unfold V2 before
  after_results_simp
  rw [V1_other m d main_arg1 (by decide)]
  rfl

theorem entered_arg2 : entered (F := Ideal) m d main_arg2 = m (eLoc d) := by
  show V2 m d (Proc.devRef .tc main_arg2) = _
  unfold V2
  rw [StableHlo.after_of_writes_sub (W := [main_v1, main_v2]) before _ (StableHlo.forall_writes_sub_of_map rfl) (by decide)]
  exact V1_other m d main_arg2 (by decide)
theorem entered_arg3 : entered (F := Ideal) m d main_arg3 = m (wLoc d) := by
  show V2 m d (Proc.devRef .tc main_arg3) = _
  unfold V2
  rw [StableHlo.after_of_writes_sub (W := [main_v1, main_v2]) before _ (StableHlo.forall_writes_sub_of_map rfl) (by decide)]
  exact V1_other m d main_arg3 (by decide)

variable (he : NearTenths (m (eLoc d))) (hw : RealWeights (m (wLoc d))) (hpre : PreOK m)

include he hw hpre in
/-- The total after `n` blocks is their terms' sum. -/
theorem total_eq (n : ℕ) (hn : n ≤ 9) : total (F := Ideal) (entered m) d n
    = ∑ k ∈ Finset.range n, ∑ a ∈ Finset.range 4096, ∑ b ∈ Finset.range 128, termAt m d (3670016 + (k * (4096 * 128) + (a * 128 + b))) := by
  induction n with
  | zero => exact lit_zero
  | succ n ih =>
    have hp : pBlock (entered m) d n = fun x => m (pLoc d) (pos 8388608 (3670016 + (n * (4096 * 128) + ((x 0).val * 128 + (x 1).val)))) := by
      funext x; unfold pBlock; rw [entered_v1]; exact congrArg (m (pLoc d)) (cell_number n (by omega) x _)
    have ht : tBlock (entered m) d n = fun x => m (tLoc d) (pos 8388608 (3670016 + (n * (4096 * 128) + ((x 0).val * 128 + (x 1).val)))) := by
      funext x; unfold tBlock; rw [entered_v2]; exact congrArg (m (tLoc d)) (cell_number n (by omega) x _)
    rw [Finset.sum_range_succ, ← ih (by omega)]
    show blockStep (F := Ideal) (entered m d main_arg2) (entered m d main_arg3) (pBlock (entered m) d n) (tBlock (entered m) d n) (total (entered m) d n) = _
    rw [entered_arg2, entered_arg3, hp, ht]
    refine (block_terms he hw _ _ _ fun x => hpre d _).trans (congrArg (total (F := Ideal) (entered m) d n + ·) ?_)
    exact Fin.sum_idx2_range ![4096, 128] fun a b => termAt m d (3670016 + (n * (4096 * 128) + (a * 128 + b)))

include he hw hpre in
/-- The two halves together. -/
theorem halves : ∑ i, rowSums m d i + total (F := Ideal) (entered m) d 9
    = ∑ i : S8388608.Idx, term (F := Ideal) (m (eLoc d)) (m (wLoc d)) (m (pLoc d) i) (m (tLoc d) i) := by
  rw [sum_parts, total_eq m d he hw hpre 9 (le_refl 9), sum_blocks 9 4096 128 3670016]
  refine Eq.trans ?_ (sum_vector (n := 8388608) fun i => term (F := Ideal) (m (eLoc d)) (m (wLoc d)) (m (pLoc d) i) (m (tLoc d) i)).symm
  have hs : ∀ N, N = 32 * (7168 * 16) + 9 * (4096 * 128) → ∑ k ∈ Finset.range N, termAt m d k
      = ∑ k ∈ Finset.range (32 * (7168 * 16)), termAt m d k + ∑ k ∈ Finset.range (9 * (4096 * 128)), termAt m d (32 * (7168 * 16) + k) := by
    intro N hN
    rw [hN, Finset.sum_range_add]
  exact (hs 8388608 (by norm_num)).symm

/-! ## The result -/

include he hw hpre in
theorem V4_result (j : S_.Idx) : V4 (F := Ideal) m d (Proc.devRef .tc main_v7) j
    = Ideal.div (∑ i : S8388608.Idx, term (F := Ideal) (m (eLoc d)) (m (wLoc d)) (m (pLoc d) i) (m (tLoc d) i)) (FloatOps.ofBits (F := Ideal) .f32 0x4B000000#32) := by
  have h0 : V3 (F := Ideal) m d (Proc.devRef .tc main_v0) = rowSums m d := by
    unfold V3
    rw [Function.update_of_ne (StableHlo.devRef_ne_of_ne (by decide))]
    unfold V2
    rw [StableHlo.after_of_writes_sub (W := [main_v1, main_v2]) before _ (StableHlo.forall_writes_sub_of_map rfl) (by decide)]
    exact V1_v0 m d
  have h3 : V3 (F := Ideal) m d (Proc.devRef .tc main_v3) = fun _ : S1x1.Idx => total (F := Ideal) (entered m) d 9 := by
    unfold V3; rw [Function.update_self]
  unfold V4 rest
  after_results_simp
  rw [h0, h3]
  refine (div_at _ _ j).trans (congrArg₂ Ideal.div ?_ rfl)
  refine Eq.trans ?_ (halves m d he hw hpre)
  exact congrArg (· + total (F := Ideal) (entered m) d 9) (sum_all (rowSums m d) _ _ h_S_ j fun _ => lit_zero)

end Cert.Proof.Loss

end
-- ==== Proof.Promise.lean ====
/-
  What the value claim's precondition says, read off the printed function: every tick in range, every edge near its tenth,
  every weight a real. And the value claim: the kernel's result and the reference's are one.
-/
module

public import proofs.«01_k».proof.Proof.Value
public import proofs.«01_k».proof.Proof.Gen.Pre_tenths
public import proofs.«01_k».proof.Proof.Gen.ReferenceIdeal.Run
public import Idealize.ShloMosaic.Lib.ReduceAll

@[expose] public section

noncomputable section

namespace Cert.Proof.Loss

open Cert.KernelIdeal Cert.KernelIdeal.Gen

open Idealize.ShloMosaic Idealize.SL.Sem Idealize.ShloMosaic.TcCoe

/-! ## The precondition -/

theorem and_bits {a b : BitVec 1} (h : IntOp.andi a b = 1#1) : a = 1#1 ∧ b = 1#1 := by
  have key : ∀ a b : BitVec 1, a &&& b = 1#1 → a = 1#1 ∧ b = 1#1 := by decide
  exact key a b h

/-- Ten times an edge nearer `k` than a half. -/
theorem near_of {x : EReal} {k : ℕ} (h : max (x * ((10 : ℝ) : EReal) - ((k : ℝ) : EReal)) (-(x * ((10 : ℝ) : EReal) - ((k : ℝ) : EReal))) < ((1 / 2 : ℝ) : EReal)) :
    ∃ r : ℝ, x = r ∧ |r * 10 - k| < 1 / 2 := by
  induction x with
  | bot =>
    obtain ⟨s, hs⟩ := real_of_abs_lt h
    rw [EReal.bot_mul_coe_of_pos (by norm_num), EReal.bot_sub] at hs
    exact absurd hs.symm (EReal.coe_ne_bot s)
  | top =>
    obtain ⟨s, hs⟩ := real_of_abs_lt h
    rw [EReal.top_mul_coe_of_pos (by norm_num), EReal.top_sub_coe] at hs
    exact absurd hs.symm (EReal.coe_ne_top s)
  | coe r =>
    refine ⟨r, rfl, ?_⟩
    rw [← EReal.coe_mul, ← EReal.coe_sub, ← EReal.coe_neg, max_lt_iff, EReal.coe_lt_coe_iff, EReal.coe_lt_coe_iff] at h
    exact abs_lt.mpr ⟨by linarith [h.2], h.1⟩

theorem tenths_spec [hP : Cert.Pre_tenths.Facts] (p t : S8388608.Idx → EReal) (e : S11.Idx → EReal) (w : S10.Idx → EReal)
    (h : Cert.Pre_tenths.fn (F := Ideal) p t e w = fun _ => 1#1) :
    (∀ j, (tick (F := Ideal) (t j)).toNat ≤ 14) ∧ NearTenths e ∧ RealWeights w := by
  have h0 := congrFun h (pos 8388608 0)
  unfold Cert.Pre_tenths.fn Cert.Pre_tenths.fn_part1 at h0
  obtain ⟨h1, hw⟩ := and_bits h0
  obtain ⟨-, he⟩ := and_bits h1
  refine ⟨fun j => ?_, fun k hk => ?_, fun i => ?_⟩
  · exact word_le _ (and_bits (and_bits (congrFun h j)).1).1
  · have h2 := (lt_iff _ _).mp (Host.reduce_andi_all _ _ _ _ _ he (pos 11 k))
    refine near_of (lt_of_eq_of_lt ?_ (lt_of_lt_of_eq h2 lit_half))
    have hs : (((BitVec.ofNat 32 (k % 11)).toInt : ℝ) : EReal) = ((k : ℝ) : EReal) := by
      interval_cases k <;> norm_num [BitVec.toInt]
    rw [← hs, ← lit_ten]
    rfl
  · have h2 := (lt_iff _ _).mp (Host.reduce_andi_all _ _ _ _ _ hw i)
    exact real_of_abs_lt h2

section
variable [hP : Cert.Pre_tenths.Facts] (m : (ℓ : Loc nD τ sig) → Buf (Elt Ideal) ℓ) (h : Cert.Pre_KernelIdeal_tenths m)
include h

theorem tenths_ticks : PreOK m := fun d => (tenths_spec _ _ _ _ (h d)).1
theorem tenths_edges (d : Dev nD) : NearTenths (m (eLoc d)) := (tenths_spec _ _ _ _ (h d)).2.1
theorem tenths_weights (d : Dev nD) : RealWeights (m (wLoc d)) := (tenths_spec _ _ _ _ (h d)).2.2

end

theorem frame_ideal_tenths [hP : Cert.Pre_tenths.Facts] : Cert.quiescent_KernelIdeal_pre_tenths := fun m ρ h =>
  run_frame (F := Ideal) m ρ (tenths_ticks m h)

/-! ## The value -/

theorem algebraic [hP : Cert.Pre_tenths.Facts] : Cert.algebraic_KernelIdeal_ReferenceIdeal_pre_tenths := by
  intro m g m' g' h hm
  have hpre := tenths_ticks m h
  refine ⟨fun c => V4 (F := Ideal) m c (Proc.devRef .tc main_v7), ?_, ?_⟩
  · exact (θ_run (defs (F := Ideal)) _ _).mono (fun r hr c => read_out m r hr c) (run_main m g hpre)
  · refine (θ_run (Cert.ReferenceIdeal.defs (F := Ideal)) _ _).mono (fun r hr c => ?_) (Cert.ReferenceIdeal.Value.run (F := Ideal) m' g')
    refine ⟨(hr c).1.trans ?_, (hr c).2⟩
    obtain ⟨h0, h1, h2, h3⟩ := hm c
    rw [h0, h1, h2, h3]
    funext j
    exact (mean_eq _ _ (tenths_edges m h c) (hpre c) j).trans (V4_result m c (tenths_edges m h c) (tenths_weights m h c) hpre j).symm

end Cert.Proof.Loss

end
-- ==== Proof.lean ====
/- The certificate's claim, assembled from the modules under Proof/. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ticks_in_range
public import proofs.«01_k».proof.Proof.Gen.Pre_tenths
public import proofs.«01_k».proof.Proof.Frame
public import proofs.«01_k».proof.Proof.Promise

@[expose] public section

noncomputable section

namespace Cert.Proof

theorem claim : Cert.Claim :=
  ⟨Cert.Kernel.Gen.facts, Cert.KernelIdeal.Gen.facts, Cert.ReferenceIdeal.Gen.facts, Cert.Pre_ticks_in_range.Gen.facts, Cert.Pre_tenths.Gen.facts,
    Loss.frame_bits, Loss.frame_ideal, Loss.frame_ideal_tenths, Loss.frame_reference, Loss.frame_reference_tenths, trivial, Loss.algebraic⟩

end Cert.Proof

end
